-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_inputs_ok [hPre_inputs_ok : Cert.Pre_inputs_ok.Facts] (m : (ℓ : Loc Cert.LossIdeal.nD Cert.LossIdeal.τ Cert.LossIdeal.sig) → Buf (Elt Ideal) ℓ) : Prop :=
  ∀ c : Dev Cert.LossIdeal.nD,
    (Cert.Pre_inputs_ok.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_inputs_ok [hPre_inputs_ok : Cert.Pre_inputs_ok.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_inputs_ok.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))) = (fun _ => 1#1)

def Pre_Mine (m : (ℓ : Loc Cert.Mine.nD Cert.Mine.τ Cert.Mine.sig) → Buf (Elt Bits) ℓ) : Prop :=
  True

def Pre_MineIdeal (m : (ℓ : Loc Cert.MineIdeal.nD Cert.MineIdeal.τ Cert.MineIdeal.sig) → Buf (Elt Ideal) ℓ) : Prop :=
  True

def Pre_MineIdeal_mine_ok [hPre_mine_ok : Cert.Pre_mine_ok.Facts] (m : (ℓ : Loc Cert.MineIdeal.nD Cert.MineIdeal.τ Cert.MineIdeal.sig) → Buf (Elt Ideal) ℓ) : Prop :=
  ∀ c : Dev Cert.MineIdeal.nD,
    (Cert.Pre_mine_ok.fn (F := Ideal) (m ((c.tc : Thread Cert.MineIdeal.nD Cert.MineIdeal.τ).loc Cert.MineIdeal.main_arg0)) (m ((c.tc : Thread Cert.MineIdeal.nD Cert.MineIdeal.τ).loc Cert.MineIdeal.main_arg1))) = (fun _ => 1#1)

def Pre_MineRefIdeal (m : (ℓ : Loc Cert.MineRefIdeal.nD Cert.MineRefIdeal.τ Cert.MineRefIdeal.sig) → Buf (Elt Ideal) ℓ) : Prop :=
  True

def Pre_MineRefIdeal_mine_ok [hPre_mine_ok : Cert.Pre_mine_ok.Facts] (m : (ℓ : Loc Cert.MineRefIdeal.nD Cert.MineRefIdeal.τ Cert.MineRefIdeal.sig) → Buf (Elt Ideal) ℓ) : Prop :=
  ∀ c : Dev Cert.MineRefIdeal.nD,
    (Cert.Pre_mine_ok.fn (F := Ideal) (m ((c.tc : Thread Cert.MineRefIdeal.nD Cert.MineRefIdeal.τ).loc Cert.MineRefIdeal.main_arg0)) (m ((c.tc : Thread Cert.MineRefIdeal.nD Cert.MineRefIdeal.τ).loc Cert.MineRefIdeal.main_arg1))) = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_inputs_ok [hLossIdeal : Cert.LossIdeal.Facts] [hPre_inputs_ok : Cert.Pre_inputs_ok.Facts] : Prop :=
  ∀ (m : (ℓ : Loc Cert.LossIdeal.nD Cert.LossIdeal.τ Cert.LossIdeal.sig) → Buf (Elt Ideal) ℓ) (g : Dev Cert.LossIdeal.nD → PrngReg), Pre_LossIdeal_inputs_ok m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_inputs_ok [hLossRefIdeal : Cert.LossRefIdeal.Facts] [hPre_inputs_ok : Cert.Pre_inputs_ok.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_inputs_ok m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_Mine [hMine : Cert.Mine.Facts] : Prop :=
  ∀ (m : (ℓ : Loc Cert.Mine.nD Cert.Mine.τ Cert.Mine.sig) → Buf (Elt Bits) ℓ) (g : Dev Cert.Mine.nD → PrngReg), Pre_Mine m →
    θ_run (Cert.Mine.defs (F := Bits)) (onTc (τ := Cert.Mine.τ) (Cert.Mine.main (F := Bits))) ⟨m, fun _ => 0, g⟩ (fun r => (∀ c : Dev Cert.Mine.nD,
      r.2.mem ((c.tc : Thread Cert.Mine.nD Cert.Mine.τ).loc Cert.Mine.main_arg0) = m ((c.tc : Thread Cert.Mine.nD Cert.Mine.τ).loc Cert.Mine.main_arg0)
      ∧ r.2.mem ((c.tc : Thread Cert.Mine.nD Cert.Mine.τ).loc Cert.Mine.main_arg1) = m ((c.tc : Thread Cert.Mine.nD Cert.Mine.τ).loc Cert.Mine.main_arg1))
      ∧ r.2.sem = fun _ => 0)

def quiescent_MineIdeal [hMineIdeal : Cert.MineIdeal.Facts] : Prop :=
  ∀ (m : (ℓ : Loc Cert.MineIdeal.nD Cert.MineIdeal.τ Cert.MineIdeal.sig) → Buf (Elt Ideal) ℓ) (g : Dev Cert.MineIdeal.nD → PrngReg), Pre_MineIdeal m →
    θ_run (Cert.MineIdeal.defs (F := Ideal)) (onTc (τ := Cert.MineIdeal.τ) (Cert.MineIdeal.main (F := Ideal))) ⟨m, fun _ => 0, g⟩ (fun r => (∀ c : Dev Cert.MineIdeal.nD,
      r.2.mem ((c.tc : Thread Cert.MineIdeal.nD Cert.MineIdeal.τ).loc Cert.MineIdeal.main_arg0) = m ((c.tc : Thread Cert.MineIdeal.nD Cert.MineIdeal.τ).loc Cert.MineIdeal.main_arg0)
      ∧ r.2.mem ((c.tc : Thread Cert.MineIdeal.nD Cert.MineIdeal.τ).loc Cert.MineIdeal.main_arg1) = m ((c.tc : Thread Cert.MineIdeal.nD Cert.MineIdeal.τ).loc Cert.MineIdeal.main_arg1))
      ∧ r.2.sem = fun _ => 0)

def quiescent_MineIdeal_pre_mine_ok [hMineIdeal : Cert.MineIdeal.Facts] [hPre_mine_ok : Cert.Pre_mine_ok.Facts] : Prop :=
  ∀ (m : (ℓ : Loc Cert.MineIdeal.nD Cert.MineIdeal.τ Cert.MineIdeal.sig) → Buf (Elt Ideal) ℓ) (g : Dev Cert.MineIdeal.nD → PrngReg), Pre_MineIdeal_mine_ok m →
    θ_run (Cert.MineIdeal.defs (F := Ideal)) (onTc (τ := Cert.MineIdeal.τ) (Cert.MineIdeal.main (F := Ideal))) ⟨m, fun _ => 0, g⟩ (fun r => (∀ c : Dev Cert.MineIdeal.nD,
      r.2.mem ((c.tc : Thread Cert.MineIdeal.nD Cert.MineIdeal.τ).loc Cert.MineIdeal.main_arg0) = m ((c.tc : Thread Cert.MineIdeal.nD Cert.MineIdeal.τ).loc Cert.MineIdeal.main_arg0)
      ∧ r.2.mem ((c.tc : Thread Cert.MineIdeal.nD Cert.MineIdeal.τ).loc Cert.MineIdeal.main_arg1) = m ((c.tc : Thread Cert.MineIdeal.nD Cert.MineIdeal.τ).loc Cert.MineIdeal.main_arg1))
      ∧ r.2.sem = fun _ => 0)

def quiescent_MineRefIdeal [hMineRefIdeal : Cert.MineRefIdeal.Facts] : Prop :=
  ∀ (m : (ℓ : Loc Cert.MineRefIdeal.nD Cert.MineRefIdeal.τ Cert.MineRefIdeal.sig) → Buf (Elt Ideal) ℓ) (g : Dev Cert.MineRefIdeal.nD → PrngReg), Pre_MineRefIdeal m →
    θ_run (Cert.MineRefIdeal.defs (F := Ideal)) (onTc (τ := Cert.MineRefIdeal.τ) (Cert.MineRefIdeal.main (F := Ideal))) ⟨m, fun _ => 0, g⟩ (fun r => (∀ c : Dev Cert.MineRefIdeal.nD,
      r.2.mem ((c.tc : Thread Cert.MineRefIdeal.nD Cert.MineRefIdeal.τ).loc Cert.MineRefIdeal.main_arg0) = m ((c.tc : Thread Cert.MineRefIdeal.nD Cert.MineRefIdeal.τ).loc Cert.MineRefIdeal.main_arg0)
      ∧ r.2.mem ((c.tc : Thread Cert.MineRefIdeal.nD Cert.MineRefIdeal.τ).loc Cert.MineRefIdeal.main_arg1) = m ((c.tc : Thread Cert.MineRefIdeal.nD Cert.MineRefIdeal.τ).loc Cert.MineRefIdeal.main_arg1))
      ∧ r.2.sem = fun _ => 0)

def quiescent_MineRefIdeal_pre_mine_ok [hMineRefIdeal : Cert.MineRefIdeal.Facts] [hPre_mine_ok : Cert.Pre_mine_ok.Facts] : Prop :=
  ∀ (m : (ℓ : Loc Cert.MineRefIdeal.nD Cert.MineRefIdeal.τ Cert.MineRefIdeal.sig) → Buf (Elt Ideal) ℓ) (g : Dev Cert.MineRefIdeal.nD → PrngReg), Pre_MineRefIdeal_mine_ok m →
    θ_run (Cert.MineRefIdeal.defs (F := Ideal)) (onTc (τ := Cert.MineRefIdeal.τ) (Cert.MineRefIdeal.main (F := Ideal))) ⟨m, fun _ => 0, g⟩ (fun r => (∀ c : Dev Cert.MineRefIdeal.nD,
      r.2.mem ((c.tc : Thread Cert.MineRefIdeal.nD Cert.MineRefIdeal.τ).loc Cert.MineRefIdeal.main_arg0) = m ((c.tc : Thread Cert.MineRefIdeal.nD Cert.MineRefIdeal.τ).loc Cert.MineRefIdeal.main_arg0)
      ∧ r.2.mem ((c.tc : Thread Cert.MineRefIdeal.nD Cert.MineRefIdeal.τ).loc Cert.MineRefIdeal.main_arg1) = m ((c.tc : Thread Cert.MineRefIdeal.nD Cert.MineRefIdeal.τ).loc Cert.MineRefIdeal.main_arg1))
      ∧ r.2.sem = fun _ => 0)

def preserves_Loss_LossIdeal : Prop :=
  IdealRules.named_const.Statement Cert.LossIdeal.κ "tenth" .f32 0x3DCCCCCD#32 ((1 / 10 : ℝ) : EReal)

def algebraic_LossIdeal_LossRefIdeal_pre_inputs_ok [hLossIdeal : Cert.LossIdeal.Facts] [hLossRefIdeal : Cert.LossRefIdeal.Facts] [hPre_inputs_ok : Cert.Pre_inputs_ok.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_inputs_ok m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v13_0)) (v1 : (c : Dev Cert.LossIdeal.nD) → Buf (Elt Ideal) ((c.tc : Thread Cert.LossIdeal.nD Cert.LossIdeal.τ).loc Cert.LossIdeal.main_v13_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v13_0) = v0 c
          ∧ r.2.mem ((c.tc : Thread Cert.LossIdeal.nD Cert.LossIdeal.τ).loc Cert.LossIdeal.main_v13_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v203) = v0 c
          ∧ r.2.mem ((c.tc : Thread Cert.LossRefIdeal.nD Cert.LossRefIdeal.τ).loc Cert.LossRefIdeal.main_v205) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_Mine_MineIdeal : Prop :=
  True

def algebraic_MineIdeal_MineRefIdeal_pre_mine_ok [hMineIdeal : Cert.MineIdeal.Facts] [hMineRefIdeal : Cert.MineRefIdeal.Facts] [hPre_mine_ok : Cert.Pre_mine_ok.Facts] : Prop :=
  ∀ (m : (ℓ : Loc Cert.MineIdeal.nD Cert.MineIdeal.τ Cert.MineIdeal.sig) → Buf (Elt Ideal) ℓ) (g : Dev Cert.MineIdeal.nD → PrngReg)
    (m' : (ℓ : Loc Cert.MineRefIdeal.nD Cert.MineRefIdeal.τ Cert.MineRefIdeal.sig) → Buf (Elt Ideal) ℓ) (g' : Dev Cert.MineRefIdeal.nD → PrngReg), Pre_MineIdeal_mine_ok m →
    (∀ c : Dev Cert.MineIdeal.nD,
      m' ((c.tc : Thread Cert.MineRefIdeal.nD Cert.MineRefIdeal.τ).loc Cert.MineRefIdeal.main_arg0) = m ((c.tc : Thread Cert.MineIdeal.nD Cert.MineIdeal.τ).loc Cert.MineIdeal.main_arg0)
      ∧ m' ((c.tc : Thread Cert.MineRefIdeal.nD Cert.MineRefIdeal.τ).loc Cert.MineRefIdeal.main_arg1) = m ((c.tc : Thread Cert.MineIdeal.nD Cert.MineIdeal.τ).loc Cert.MineIdeal.main_arg1)) →
    ∃ (v0 : (c : Dev Cert.MineIdeal.nD) → Buf (Elt Ideal) ((c.tc : Thread Cert.MineIdeal.nD Cert.MineIdeal.τ).loc Cert.MineIdeal.main_v0)) (v1 : (c : Dev Cert.MineIdeal.nD) → Buf (Elt Ideal) ((c.tc : Thread Cert.MineIdeal.nD Cert.MineIdeal.τ).loc Cert.MineIdeal.main_v18)),
      θ_run (Cert.MineIdeal.defs (F := Ideal)) (onTc (τ := Cert.MineIdeal.τ) (Cert.MineIdeal.main (F := Ideal))) ⟨m, fun _ => 0, g⟩ (fun r => ∀ c : Dev Cert.MineIdeal.nD,
          r.2.mem ((c.tc : Thread Cert.MineIdeal.nD Cert.MineIdeal.τ).loc Cert.MineIdeal.main_v0) = v0 c
          ∧ r.2.mem ((c.tc : Thread Cert.MineIdeal.nD Cert.MineIdeal.τ).loc Cert.MineIdeal.main_v18) = v1 c
          ∧ r.2.mem ((c.tc : Thread Cert.MineIdeal.nD Cert.MineIdeal.τ).loc Cert.MineIdeal.main_arg0) = m ((c.tc : Thread Cert.MineIdeal.nD Cert.MineIdeal.τ).loc Cert.MineIdeal.main_arg0)
          ∧ r.2.mem ((c.tc : Thread Cert.MineIdeal.nD Cert.MineIdeal.τ).loc Cert.MineIdeal.main_arg1) = m ((c.tc : Thread Cert.MineIdeal.nD Cert.MineIdeal.τ).loc Cert.MineIdeal.main_arg1))
      ∧ θ_run (Cert.MineRefIdeal.defs (F := Ideal)) (onTc (τ := Cert.MineRefIdeal.τ) (Cert.MineRefIdeal.main (F := Ideal))) ⟨m', fun _ => 0, g'⟩ (fun r => ∀ c : Dev Cert.MineRefIdeal.nD,
          r.2.mem ((c.tc : Thread Cert.MineRefIdeal.nD Cert.MineRefIdeal.τ).loc Cert.MineRefIdeal.main_v18) = v0 c
          ∧ r.2.mem ((c.tc : Thread Cert.MineRefIdeal.nD Cert.MineRefIdeal.τ).loc Cert.MineRefIdeal.main_v33) = v1 c
          ∧ r.2.mem ((c.tc : Thread Cert.MineRefIdeal.nD Cert.MineRefIdeal.τ).loc Cert.MineRefIdeal.main_arg0) = m' ((c.tc : Thread Cert.MineRefIdeal.nD Cert.MineRefIdeal.τ).loc Cert.MineRefIdeal.main_arg0)
          ∧ r.2.mem ((c.tc : Thread Cert.MineRefIdeal.nD Cert.MineRefIdeal.τ).loc Cert.MineRefIdeal.main_arg1) = m' ((c.tc : Thread Cert.MineRefIdeal.nD Cert.MineRefIdeal.τ).loc Cert.MineRefIdeal.main_arg1))

def Claim : Prop :=
  ∃ (hLoss : Cert.Loss.Facts) (hLossIdeal : Cert.LossIdeal.Facts) (hLossRefIdeal : Cert.LossRefIdeal.Facts) (hMine : Cert.Mine.Facts) (hMineIdeal : Cert.MineIdeal.Facts) (hMineRefIdeal : Cert.MineRefIdeal.Facts) (hPre_inputs_ok : Cert.Pre_inputs_ok.Facts) (hPre_mine_ok : Cert.Pre_mine_ok.Facts),
    quiescent_Loss (hLoss := hLoss)
    ∧ quiescent_LossIdeal (hLossIdeal := hLossIdeal)
    ∧ quiescent_LossIdeal_pre_inputs_ok (hLossIdeal := hLossIdeal) (hPre_inputs_ok := hPre_inputs_ok)
    ∧ quiescent_LossRefIdeal (hLossRefIdeal := hLossRefIdeal)
    ∧ quiescent_LossRefIdeal_pre_inputs_ok (hLossRefIdeal := hLossRefIdeal) (hPre_inputs_ok := hPre_inputs_ok)
    ∧ quiescent_Mine (hMine := hMine)
    ∧ quiescent_MineIdeal (hMineIdeal := hMineIdeal)
    ∧ quiescent_MineIdeal_pre_mine_ok (hMineIdeal := hMineIdeal) (hPre_mine_ok := hPre_mine_ok)
    ∧ quiescent_MineRefIdeal (hMineRefIdeal := hMineRefIdeal)
    ∧ quiescent_MineRefIdeal_pre_mine_ok (hMineRefIdeal := hMineRefIdeal) (hPre_mine_ok := hPre_mine_ok)
    ∧ preserves_Loss_LossIdeal
    ∧ algebraic_LossIdeal_LossRefIdeal_pre_inputs_ok (hLossIdeal := hLossIdeal) (hLossRefIdeal := hLossRefIdeal) (hPre_inputs_ok := hPre_inputs_ok)
    ∧ preserves_Mine_MineIdeal
    ∧ algebraic_MineIdeal_MineRefIdeal_pre_mine_ok (hMineIdeal := hMineIdeal) (hMineRefIdeal := hMineRefIdeal) (hPre_mine_ok := hPre_mine_ok)
-- ==== Pre_inputs_ok.lean ====
abbrev S32x8732x4 : Shape := ⟨3, ![32, 8732, 4]⟩
abbrev S32x8732x21 : Shape := ⟨3, ![32, 8732, 21]⟩
abbrev S32x20x4 : Shape := ⟨3, ![32, 20, 4]⟩
abbrev S32x20 : Shape := ⟨2, ![32, 20]⟩
abbrev S8732x4 : Shape := ⟨2, ![8732, 4]⟩
abbrev S_ : Shape := ⟨0, ![]⟩
abbrev S32x20x2 : Shape := ⟨3, ![32, 20, 2]⟩
abbrev S8732x2 : Shape := ⟨2, ![8732, 2]⟩

class Facts : Prop where
  bcast_S_S32x8732x21 : S_.BroadcastsInDim S32x8732x21 (![] : Fin 0 → Fin S32x8732x21.rank)
  reducesTo_S32x8732x21_S_d0_1_2 : S32x8732x21.ReducesTo [0, 1, 2] S_
  h_S_ : 0 < S_.numel
  bcast_S_S32x20 : S_.BroadcastsInDim S32x20 (![] : Fin 0 → Fin S32x20.rank)
  reducesTo_S32x20_S_d0_1 : S32x20.ReducesTo [0, 1] S_
  slices_S32x20x4_S32x20x2_0_0_0 : S32x20x4.Slices ![0, 0, 0] S32x20x2
  slices_S32x20x4_S32x20x2_0_0_2 : S32x20x4.Slices ![0, 0, 2] S32x20x2
  reducesTo_S32x20x2_S_d0_1_2 : S32x20x2.ReducesTo [0, 1, 2] S_
  slices_S8732x4_S8732x2_0_0 : S8732x4.Slices ![0, 0] S8732x2
  slices_S8732x4_S8732x2_0_2 : S8732x4.Slices ![0, 2] S8732x2
  reducesTo_S8732x2_S_d0_1 : S8732x2.ReducesTo [0, 1] S_

variable [Facts]

def fn_part1 {F : FTy → Type} [FloatOps F] (main_v3 : IVec S_ 1) (main_v9 : IVec S_ 1) (main_v13 : IVec S_ 1) (main_v16 : IVec S8732x2 1) (main_c_4 : IVec S_ 1) : IVec S_ 1 :=
  let main_v17 : IVec S_ 1 := (fun x v => Host.reduce IntOp.andi x v reducesTo_S8732x2_S_d0_1 h_S_) main_v16 main_c_4
  let main_v18 : IVec S_ 1 := andi main_v3 main_v9
  let main_v19 : IVec S_ 1 := andi main_v18 main_v13
  let main_v20 : IVec S_ 1 := andi main_v19 main_v17
  main_v20

def fn {F : FTy → Type} [FloatOps F] (main_arg0 : FVec F S32x8732x4 .f32) (main_arg1 : FVec F S32x8732x21 .f32) (main_arg2 : FVec F S32x20x4 .f32) (main_arg3 : IVec S32x20 32) (main_arg4 : FVec F S8732x4 .f32) (main_arg5 : FVec F S8732x4 .f32) : IVec S_ 1 :=
  let main_v0 : FVec F S32x8732x21 .f32 := Host.absf main_arg1
  let main_cst : FVec F S_ .f32 := constant S_ .f32 0x7F800000#32
  let main_v1 : FVec F S32x8732x21 .f32 := broadcastInDim S32x8732x21 ![] bcast_S_S32x8732x21 main_cst
  let main_v2 : IVec S32x8732x21 1 := cmpf .olt main_v0 main_v1
  let main_c : IVec S_ 1 := constantI S_ 1 1#1
  let main_v3 : IVec S_ 1 := (fun x v => Host.reduce IntOp.andi x v reducesTo_S32x8732x21_S_d0_1_2 h_S_) main_v2 main_c
  let main_c_0 : IVec S_ 32 := constantI S_ 32 0#32
  let main_v4 : IVec S32x20 32 := broadcastInDim S32x20 ![] bcast_S_S32x20 main_c_0
  let main_v5 : IVec S32x20 1 := cmpi .sge main_arg3 main_v4
  let main_c_1 : IVec S_ 32 := constantI S_ 32 21#32
  let main_v6 : IVec S32x20 32 := broadcastInDim S32x20 ![] bcast_S_S32x20 main_c_1
  let main_v7 : IVec S32x20 1 := cmpi .slt main_arg3 main_v6
  let main_v8 : IVec S32x20 1 := andi main_v5 main_v7
  let main_c_2 : IVec S_ 1 := constantI S_ 1 1#1
  let main_v9 : IVec S_ 1 := (fun x v => Host.reduce IntOp.andi x v reducesTo_S32x20_S_d0_1 h_S_) main_v8 main_c_2
  let main_v10 : FVec F S32x20x2 .f32 := (extractStridedSlice S32x20x2 ![0, 0, 0] · slices_S32x20x4_S32x20x2_0_0_0) main_arg2
  let main_v11 : FVec F S32x20x2 .f32 := (extractStridedSlice S32x20x2 ![0, 0, 2] · slices_S32x20x4_S32x20x2_0_0_2) main_arg2
  let main_v12 : IVec S32x20x2 1 := cmpf .ole main_v10 main_v11
  let main_c_3 : IVec S_ 1 := constantI S_ 1 1#1
  let main_v13 : IVec S_ 1 := (fun x v => Host.reduce IntOp.andi x v reducesTo_S32x20x2_S_d0_1_2 h_S_) main_v12 main_c_3
  let main_v14 : FVec F S8732x2 .f32 := (extractStridedSlice S8732x2 ![0, 0] · slices_S8732x4_S8732x2_0_0) main_arg4
  let main_v15 : FVec F S8732x2 .f32 := (extractStridedSlice S8732x2 ![0, 2] · slices_S8732x4_S8732x2_0_2) main_arg4
  let main_v16 : IVec S8732x2 1 := cmpf .ole main_v14 main_v15
  let main_c_4 : IVec S_ 1 := constantI S_ 1 1#1
  fn_part1 (F := F) main_v3 main_v9 main_v13 main_v16 main_c_4
-- ==== Pre_mine_ok.lean ====
abbrev S32x8736 : Shape := ⟨2, ![32, 8736]⟩
abbrev S32x8 : Shape := ⟨2, ![32, 8]⟩
abbrev S_ : Shape := ⟨0, ![]⟩
abbrev S32x4 : Shape := ⟨2, ![32, 4]⟩
abbrev S32x1 : Shape := ⟨2, ![32, 1]⟩
abbrev S32 : Shape := ⟨1, ![32]⟩

class Facts : Prop where
  bcast_S_S32x8736 : S_.BroadcastsInDim S32x8736 (![] : Fin 0 → Fin S32x8736.rank)
  reducesTo_S32x8736_S_d0_1 : S32x8736.ReducesTo [0, 1] S_
  h_S_ : 0 < S_.numel
  slices_S32x8736_S32x4_0_8732 : S32x8736.Slices ![0, 8732] S32x4
  bcast_S_S32x4 : S_.BroadcastsInDim S32x4 (![] : Fin 0 → Fin S32x4.rank)
  reducesTo_S32x4_S_d0_1 : S32x4.ReducesTo [0, 1] S_
  slices_S32x8_S32x1_0_0 : S32x8.Slices ![0, 0] S32x1
  shapeCasts_S32x1_S32 : S32x1.ShapeCasts S32
  bcast_S_S32 : S_.BroadcastsInDim S32 (![] : Fin 0 → Fin S32.rank)
  reducesTo_S32_S_d0 : S32.ReducesTo [0] S_

variable [Facts]

def fn_where {F : FTy → Type} [FloatOps F] (arg0 : IVec S32x8736 1) (arg1 : IVec S32x8736 32) (arg2 : IVec S32x8736 32) : IVec S32x8736 32 :=
  let v0 : IVec S32x8736 32 := select arg0 arg1 arg2
  v0

def fn_part13 {F : FTy → Type} [FloatOps F] (main_v258 : IVec S_ 1) (main_v262 : IVec S_ 1) (main_v271 : IVec S_ 1) : IVec S_ 1 :=
  let main_v272 : IVec S_ 1 := andi main_v258 main_v262
  let main_v273 : IVec S_ 1 := andi main_v272 main_v271
  main_v273

def fn_part12 {F : FTy → Type} [FloatOps F] (main_arg0 : FVec F S32x8736 .f32) (main_arg1 : FVec F S32x8 .f32) (main_v4 : IVec S32x8736 1) (main_v245 : IVec S32x8736 32) (main_v246 : IVec S32x8736 32) (main_v250 : IVec S32x8736 32) (main_v252 : IVec S32x8736 1) : IVec S_ 1 :=
  let main_v253 : IVec S32x8736 32 := fn_where (F := F) main_v252 main_v250 main_v245
  let main_v254 : IVec S32x8736 32 := fn_where (F := F) main_v252 main_v246 main_v250
  let main_v255 : FVec F S32x8736 .f32 := bitcastToFloat .f32 main_v253
  let main_v256 : IVec S32x8736 1 := cmpf .oeq main_arg0 main_v255
  let main_v257 : IVec S32x8736 1 := andi main_v4 main_v256
  let main_c_33 : IVec S_ 1 := constantI S_ 1 1#1
  let main_v258 : IVec S_ 1 := (fun x v => Host.reduce IntOp.andi x v reducesTo_S32x8736_S_d0_1 h_S_) main_v257 main_c_33
  let main_v259 : FVec F S32x4 .f32 := (extractStridedSlice S32x4 ![0, 8732] · slices_S32x8736_S32x4_0_8732) main_arg0
  let main_cst_34 : FVec F S_ .f32 := constant S_ .f32 0x00000000#32
  let main_v260 : FVec F S32x4 .f32 := broadcastInDim S32x4 ![] bcast_S_S32x4 main_cst_34
  let main_v261 : IVec S32x4 1 := cmpf .oeq main_v259 main_v260
  let main_c_35 : IVec S_ 1 := constantI S_ 1 1#1
  let main_v262 : IVec S_ 1 := (fun x v => Host.reduce IntOp.andi x v reducesTo_S32x4_S_d0_1 h_S_) main_v261 main_c_35
  let main_v263 : FVec F S32x1 .f32 := (extractStridedSlice S32x1 ![0, 0] · slices_S32x8_S32x1_0_0) main_arg1
  let main_v264 : FVec F S32 .f32 := shapeCast S32 main_v263 shapeCasts_S32x1_S32
  let main_cst_36 : FVec F S_ .f32 := constant S_ .f32 0x00000000#32
  let main_v265 : FVec F S32 .f32 := broadcastInDim S32 ![] bcast_S_S32 main_cst_36
  let main_v266 : IVec S32 1 := cmpf .oge main_v264 main_v265
  let main_v267 : IVec S32 32 := fptosi 32 main_v264
  let main_v268 : FVec F S32 .f32 := sitofp .f32 main_v267
  let main_v269 : IVec S32 1 := cmpf .oeq main_v264 main_v268
  let main_v270 : IVec S32 1 := andi main_v266 main_v269
  let main_c_37 : IVec S_ 1 := constantI S_ 1 1#1
  let main_v271 : IVec S_ 1 := (fun x v => Host.reduce IntOp.andi x v reducesTo_S32_S_d0 h_S_) main_v270 main_c_37
  fn_part13 (F := F) main_v258 main_v262 main_v271

def fn_part11 {F : FTy → Type} [FloatOps F] (main_arg0 : FVec F S32x8736 .f32) (main_arg1 : FVec F S32x8 .f32) (main_v4 : IVec S32x8736 1) (main_v229 : IVec S32x8736 32) (main_v230 : IVec S32x8736 32) (main_v231 : IVec S32x8736 32) : IVec S_ 1 :=
  let main_c_30 : IVec S_ 32 := constantI S_ 32 1#32
  let main_v232 : IVec S32x8736 32 := broadcastInDim S32x8736 ![] bcast_S_S32x8736 main_c_30
  let main_v233 : IVec S32x8736 32 := Host.shrui main_v231 main_v232
  let main_v234 : IVec S32x8736 32 := addi main_v229 main_v233
  let main_v235 : FVec F S32x8736 .f32 := bitcastToFloat .f32 main_v234
  let main_v236 : IVec S32x8736 1 := cmpf .ole main_v235 main_arg0
  let main_v237 : IVec S32x8736 32 := fn_where (F := F) main_v236 main_v234 main_v229
  let main_v238 : IVec S32x8736 32 := fn_where (F := F) main_v236 main_v230 main_v234
  let main_v239 : IVec S32x8736 32 := subi main_v238 main_v237
  let main_c_31 : IVec S_ 32 := constantI S_ 32 1#32
  let main_v240 : IVec S32x8736 32 := broadcastInDim S32x8736 ![] bcast_S_S32x8736 main_c_31
  let main_v241 : IVec S32x8736 32 := Host.shrui main_v239 main_v240
  let main_v242 : IVec S32x8736 32 := addi main_v237 main_v241
  let main_v243 : FVec F S32x8736 .f32 := bitcastToFloat .f32 main_v242
  let main_v244 : IVec S32x8736 1 := cmpf .ole main_v243 main_arg0
  let main_v245 : IVec S32x8736 32 := fn_where (F := F) main_v244 main_v242 main_v237
  let main_v246 : IVec S32x8736 32 := fn_where (F := F) main_v244 main_v238 main_v242
  let main_v247 : IVec S32x8736 32 := subi main_v246 main_v245
  let main_c_32 : IVec S_ 32 := constantI S_ 32 1#32
  let main_v248 : IVec S32x8736 32 := broadcastInDim S32x8736 ![] bcast_S_S32x8736 main_c_32
  let main_v249 : IVec S32x8736 32 := Host.shrui main_v247 main_v248
  let main_v250 : IVec S32x8736 32 := addi main_v245 main_v249
  let main_v251 : FVec F S32x8736 .f32 := bitcastToFloat .f32 main_v250
  let main_v252 : IVec S32x8736 1 := cmpf .ole main_v251 main_arg0
  fn_part12 (F := F) main_arg0 main_arg1 main_v4 main_v245 main_v246 main_v250 main_v252

def fn_part10 {F : FTy → Type} [FloatOps F] (main_arg0 : FVec F S32x8736 .f32) (main_arg1 : FVec F S32x8 .f32) (main_v4 : IVec S32x8736 1) (main_v205 : IVec S32x8736 32) (main_v206 : IVec S32x8736 32) (main_v209 : IVec S32x8736 32) : IVec S_ 1 :=
  let main_v210 : IVec S32x8736 32 := addi main_v205 main_v209
  let main_v211 : FVec F S32x8736 .f32 := bitcastToFloat .f32 main_v210
  let main_v212 : IVec S32x8736 1 := cmpf .ole main_v211 main_arg0
  let main_v213 : IVec S32x8736 32 := fn_where (F := F) main_v212 main_v210 main_v205
  let main_v214 : IVec S32x8736 32 := fn_where (F := F) main_v212 main_v206 main_v210
  let main_v215 : IVec S32x8736 32 := subi main_v214 main_v213
  let main_c_28 : IVec S_ 32 := constantI S_ 32 1#32
  let main_v216 : IVec S32x8736 32 := broadcastInDim S32x8736 ![] bcast_S_S32x8736 main_c_28
  let main_v217 : IVec S32x8736 32 := Host.shrui main_v215 main_v216
  let main_v218 : IVec S32x8736 32 := addi main_v213 main_v217
  let main_v219 : FVec F S32x8736 .f32 := bitcastToFloat .f32 main_v218
  let main_v220 : IVec S32x8736 1 := cmpf .ole main_v219 main_arg0
  let main_v221 : IVec S32x8736 32 := fn_where (F := F) main_v220 main_v218 main_v213
  let main_v222 : IVec S32x8736 32 := fn_where (F := F) main_v220 main_v214 main_v218
  let main_v223 : IVec S32x8736 32 := subi main_v222 main_v221
  let main_c_29 : IVec S_ 32 := constantI S_ 32 1#32
  let main_v224 : IVec S32x8736 32 := broadcastInDim S32x8736 ![] bcast_S_S32x8736 main_c_29
  let main_v225 : IVec S32x8736 32 := Host.shrui main_v223 main_v224
  let main_v226 : IVec S32x8736 32 := addi main_v221 main_v225
  let main_v227 : FVec F S32x8736 .f32 := bitcastToFloat .f32 main_v226
  let main_v228 : IVec S32x8736 1 := cmpf .ole main_v227 main_arg0
  let main_v229 : IVec S32x8736 32 := fn_where (F := F) main_v228 main_v226 main_v221
  let main_v230 : IVec S32x8736 32 := fn_where (F := F) main_v228 main_v222 main_v226
  let main_v231 : IVec S32x8736 32 := subi main_v230 main_v229
  fn_part11 (F := F) main_arg0 main_arg1 main_v4 main_v229 main_v230 main_v231

def fn_part9 {F : FTy → Type} [FloatOps F] (main_arg0 : FVec F S32x8736 .f32) (main_arg1 : FVec F S32x8 .f32) (main_v4 : IVec S32x8736 1) (main_v181 : IVec S32x8736 32) (main_v182 : IVec S32x8736 32) (main_v186 : IVec S32x8736 32) (main_v188 : IVec S32x8736 1) : IVec S_ 1 :=
  let main_v189 : IVec S32x8736 32 := fn_where (F := F) main_v188 main_v186 main_v181
  let main_v190 : IVec S32x8736 32 := fn_where (F := F) main_v188 main_v182 main_v186
  let main_v191 : IVec S32x8736 32 := subi main_v190 main_v189
  let main_c_25 : IVec S_ 32 := constantI S_ 32 1#32
  let main_v192 : IVec S32x8736 32 := broadcastInDim S32x8736 ![] bcast_S_S32x8736 main_c_25
  let main_v193 : IVec S32x8736 32 := Host.shrui main_v191 main_v192
  let main_v194 : IVec S32x8736 32 := addi main_v189 main_v193
  let main_v195 : FVec F S32x8736 .f32 := bitcastToFloat .f32 main_v194
  let main_v196 : IVec S32x8736 1 := cmpf .ole main_v195 main_arg0
  let main_v197 : IVec S32x8736 32 := fn_where (F := F) main_v196 main_v194 main_v189
  let main_v198 : IVec S32x8736 32 := fn_where (F := F) main_v196 main_v190 main_v194
  let main_v199 : IVec S32x8736 32 := subi main_v198 main_v197
  let main_c_26 : IVec S_ 32 := constantI S_ 32 1#32
  let main_v200 : IVec S32x8736 32 := broadcastInDim S32x8736 ![] bcast_S_S32x8736 main_c_26
  let main_v201 : IVec S32x8736 32 := Host.shrui main_v199 main_v200
  let main_v202 : IVec S32x8736 32 := addi main_v197 main_v201
  let main_v203 : FVec F S32x8736 .f32 := bitcastToFloat .f32 main_v202
  let main_v204 : IVec S32x8736 1 := cmpf .ole main_v203 main_arg0
  let main_v205 : IVec S32x8736 32 := fn_where (F := F) main_v204 main_v202 main_v197
  let main_v206 : IVec S32x8736 32 := fn_where (F := F) main_v204 main_v198 main_v202
  let main_v207 : IVec S32x8736 32 := subi main_v206 main_v205
  let main_c_27 : IVec S_ 32 := constantI S_ 32 1#32
  let main_v208 : IVec S32x8736 32 := broadcastInDim S32x8736 ![] bcast_S_S32x8736 main_c_27
  let main_v209 : IVec S32x8736 32 := Host.shrui main_v207 main_v208
  fn_part10 (F := F) main_arg0 main_arg1 main_v4 main_v205 main_v206 main_v209

def fn_part8 {F : FTy → Type} [FloatOps F] (main_arg0 : FVec F S32x8736 .f32) (main_arg1 : FVec F S32x8 .f32) (main_v4 : IVec S32x8736 1) (main_v165 : IVec S32x8736 32) (main_v166 : IVec S32x8736 32) (main_v167 : IVec S32x8736 32) : IVec S_ 1 :=
  let main_c_22 : IVec S_ 32 := constantI S_ 32 1#32
  let main_v168 : IVec S32x8736 32 := broadcastInDim S32x8736 ![] bcast_S_S32x8736 main_c_22
  let main_v169 : IVec S32x8736 32 := Host.shrui main_v167 main_v168
  let main_v170 : IVec S32x8736 32 := addi main_v165 main_v169
  let main_v171 : FVec F S32x8736 .f32 := bitcastToFloat .f32 main_v170
  let main_v172 : IVec S32x8736 1 := cmpf .ole main_v171 main_arg0
  let main_v173 : IVec S32x8736 32 := fn_where (F := F) main_v172 main_v170 main_v165
  let main_v174 : IVec S32x8736 32 := fn_where (F := F) main_v172 main_v166 main_v170
  let main_v175 : IVec S32x8736 32 := subi main_v174 main_v173
  let main_c_23 : IVec S_ 32 := constantI S_ 32 1#32
  let main_v176 : IVec S32x8736 32 := broadcastInDim S32x8736 ![] bcast_S_S32x8736 main_c_23
  let main_v177 : IVec S32x8736 32 := Host.shrui main_v175 main_v176
  let main_v178 : IVec S32x8736 32 := addi main_v173 main_v177
  let main_v179 : FVec F S32x8736 .f32 := bitcastToFloat .f32 main_v178
  let main_v180 : IVec S32x8736 1 := cmpf .ole main_v179 main_arg0
  let main_v181 : IVec S32x8736 32 := fn_where (F := F) main_v180 main_v178 main_v173
  let main_v182 : IVec S32x8736 32 := fn_where (F := F) main_v180 main_v174 main_v178
  let main_v183 : IVec S32x8736 32 := subi main_v182 main_v181
  let main_c_24 : IVec S_ 32 := constantI S_ 32 1#32
  let main_v184 : IVec S32x8736 32 := broadcastInDim S32x8736 ![] bcast_S_S32x8736 main_c_24
  let main_v185 : IVec S32x8736 32 := Host.shrui main_v183 main_v184
  let main_v186 : IVec S32x8736 32 := addi main_v181 main_v185
  let main_v187 : FVec F S32x8736 .f32 := bitcastToFloat .f32 main_v186
  let main_v188 : IVec S32x8736 1 := cmpf .ole main_v187 main_arg0
  fn_part9 (F := F) main_arg0 main_arg1 main_v4 main_v181 main_v182 main_v186 main_v188

def fn_part7 {F : FTy → Type} [FloatOps F] (main_arg0 : FVec F S32x8736 .f32) (main_arg1 : FVec F S32x8 .f32) (main_v4 : IVec S32x8736 1) (main_v141 : IVec S32x8736 32) (main_v142 : IVec S32x8736 32) (main_v145 : IVec S32x8736 32) : IVec S_ 1 :=
  let main_v146 : IVec S32x8736 32 := addi main_v141 main_v145
  let main_v147 : FVec F S32x8736 .f32 := bitcastToFloat .f32 main_v146
  let main_v148 : IVec S32x8736 1 := cmpf .ole main_v147 main_arg0
  let main_v149 : IVec S32x8736 32 := fn_where (F := F) main_v148 main_v146 main_v141
  let main_v150 : IVec S32x8736 32 := fn_where (F := F) main_v148 main_v142 main_v146
  let main_v151 : IVec S32x8736 32 := subi main_v150 main_v149
  let main_c_20 : IVec S_ 32 := constantI S_ 32 1#32
  let main_v152 : IVec S32x8736 32 := broadcastInDim S32x8736 ![] bcast_S_S32x8736 main_c_20
  let main_v153 : IVec S32x8736 32 := Host.shrui main_v151 main_v152
  let main_v154 : IVec S32x8736 32 := addi main_v149 main_v153
  let main_v155 : FVec F S32x8736 .f32 := bitcastToFloat .f32 main_v154
  let main_v156 : IVec S32x8736 1 := cmpf .ole main_v155 main_arg0
  let main_v157 : IVec S32x8736 32 := fn_where (F := F) main_v156 main_v154 main_v149
  let main_v158 : IVec S32x8736 32 := fn_where (F := F) main_v156 main_v150 main_v154
  let main_v159 : IVec S32x8736 32 := subi main_v158 main_v157
  let main_c_21 : IVec S_ 32 := constantI S_ 32 1#32
  let main_v160 : IVec S32x8736 32 := broadcastInDim S32x8736 ![] bcast_S_S32x8736 main_c_21
  let main_v161 : IVec S32x8736 32 := Host.shrui main_v159 main_v160
  let main_v162 : IVec S32x8736 32 := addi main_v157 main_v161
  let main_v163 : FVec F S32x8736 .f32 := bitcastToFloat .f32 main_v162
  let main_v164 : IVec S32x8736 1 := cmpf .ole main_v163 main_arg0
  let main_v165 : IVec S32x8736 32 := fn_where (F := F) main_v164 main_v162 main_v157
  let main_v166 : IVec S32x8736 32 := fn_where (F := F) main_v164 main_v158 main_v162
  let main_v167 : IVec S32x8736 32 := subi main_v166 main_v165
  fn_part8 (F := F) main_arg0 main_arg1 main_v4 main_v165 main_v166 main_v167

def fn_part6 {F : FTy → Type} [FloatOps F] (main_arg0 : FVec F S32x8736 .f32) (main_arg1 : FVec F S32x8 .f32) (main_v4 : IVec S32x8736 1) (main_v117 : IVec S32x8736 32) (main_v118 : IVec S32x8736 32) (main_v122 : IVec S32x8736 32) (main_v124 : IVec S32x8736 1) : IVec S_ 1 :=
  let main_v125 : IVec S32x8736 32 := fn_where (F := F) main_v124 main_v122 main_v117
  let main_v126 : IVec S32x8736 32 := fn_where (F := F) main_v124 main_v118 main_v122
  let main_v127 : IVec S32x8736 32 := subi main_v126 main_v125
  let main_c_17 : IVec S_ 32 := constantI S_ 32 1#32
  let main_v128 : IVec S32x8736 32 := broadcastInDim S32x8736 ![] bcast_S_S32x8736 main_c_17
  let main_v129 : IVec S32x8736 32 := Host.shrui main_v127 main_v128
  let main_v130 : IVec S32x8736 32 := addi main_v125 main_v129
  let main_v131 : FVec F S32x8736 .f32 := bitcastToFloat .f32 main_v130
  let main_v132 : IVec S32x8736 1 := cmpf .ole main_v131 main_arg0
  let main_v133 : IVec S32x8736 32 := fn_where (F := F) main_v132 main_v130 main_v125
  let main_v134 : IVec S32x8736 32 := fn_where (F := F) main_v132 main_v126 main_v130
  let main_v135 : IVec S32x8736 32 := subi main_v134 main_v133
  let main_c_18 : IVec S_ 32 := constantI S_ 32 1#32
  let main_v136 : IVec S32x8736 32 := broadcastInDim S32x8736 ![] bcast_S_S32x8736 main_c_18
  let main_v137 : IVec S32x8736 32 := Host.shrui main_v135 main_v136
  let main_v138 : IVec S32x8736 32 := addi main_v133 main_v137
  let main_v139 : FVec F S32x8736 .f32 := bitcastToFloat .f32 main_v138
  let main_v140 : IVec S32x8736 1 := cmpf .ole main_v139 main_arg0
  let main_v141 : IVec S32x8736 32 := fn_where (F := F) main_v140 main_v138 main_v133
  let main_v142 : IVec S32x8736 32 := fn_where (F := F) main_v140 main_v134 main_v138
  let main_v143 : IVec S32x8736 32 := subi main_v142 main_v141
  let main_c_19 : IVec S_ 32 := constantI S_ 32 1#32
  let main_v144 : IVec S32x8736 32 := broadcastInDim S32x8736 ![] bcast_S_S32x8736 main_c_19
  let main_v145 : IVec S32x8736 32 := Host.shrui main_v143 main_v144
  fn_part7 (F := F) main_arg0 main_arg1 main_v4 main_v141 main_v142 main_v145

def fn_part5 {F : FTy → Type} [FloatOps F] (main_arg0 : FVec F S32x8736 .f32) (main_arg1 : FVec F S32x8 .f32) (main_v4 : IVec S32x8736 1) (main_v101 : IVec S32x8736 32) (main_v102 : IVec S32x8736 32) (main_v103 : IVec S32x8736 32) : IVec S_ 1 :=
  let main_c_14 : IVec S_ 32 := constantI S_ 32 1#32
  let main_v104 : IVec S32x8736 32 := broadcastInDim S32x8736 ![] bcast_S_S32x8736 main_c_14
  let main_v105 : IVec S32x8736 32 := Host.shrui main_v103 main_v104
  let main_v106 : IVec S32x8736 32 := addi main_v101 main_v105
  let main_v107 : FVec F S32x8736 .f32 := bitcastToFloat .f32 main_v106
  let main_v108 : IVec S32x8736 1 := cmpf .ole main_v107 main_arg0
  let main_v109 : IVec S32x8736 32 := fn_where (F := F) main_v108 main_v106 main_v101
  let main_v110 : IVec S32x8736 32 := fn_where (F := F) main_v108 main_v102 main_v106
  let main_v111 : IVec S32x8736 32 := subi main_v110 main_v109
  let main_c_15 : IVec S_ 32 := constantI S_ 32 1#32
  let main_v112 : IVec S32x8736 32 := broadcastInDim S32x8736 ![] bcast_S_S32x8736 main_c_15
  let main_v113 : IVec S32x8736 32 := Host.shrui main_v111 main_v112
  let main_v114 : IVec S32x8736 32 := addi main_v109 main_v113
  let main_v115 : FVec F S32x8736 .f32 := bitcastToFloat .f32 main_v114
  let main_v116 : IVec S32x8736 1 := cmpf .ole main_v115 main_arg0
  let main_v117 : IVec S32x8736 32 := fn_where (F := F) main_v116 main_v114 main_v109
  let main_v118 : IVec S32x8736 32 := fn_where (F := F) main_v116 main_v110 main_v114
  let main_v119 : IVec S32x8736 32 := subi main_v118 main_v117
  let main_c_16 : IVec S_ 32 := constantI S_ 32 1#32
  let main_v120 : IVec S32x8736 32 := broadcastInDim S32x8736 ![] bcast_S_S32x8736 main_c_16
  let main_v121 : IVec S32x8736 32 := Host.shrui main_v119 main_v120
  let main_v122 : IVec S32x8736 32 := addi main_v117 main_v121
  let main_v123 : FVec F S32x8736 .f32 := bitcastToFloat .f32 main_v122
  let main_v124 : IVec S32x8736 1 := cmpf .ole main_v123 main_arg0
  fn_part6 (F := F) main_arg0 main_arg1 main_v4 main_v117 main_v118 main_v122 main_v124

def fn_part4 {F : FTy → Type} [FloatOps F] (main_arg0 : FVec F S32x8736 .f32) (main_arg1 : FVec F S32x8 .f32) (main_v4 : IVec S32x8736 1) (main_v77 : IVec S32x8736 32) (main_v78 : IVec S32x8736 32) (main_v81 : IVec S32x8736 32) : IVec S_ 1 :=
  let main_v82 : IVec S32x8736 32 := addi main_v77 main_v81
  let main_v83 : FVec F S32x8736 .f32 := bitcastToFloat .f32 main_v82
  let main_v84 : IVec S32x8736 1 := cmpf .ole main_v83 main_arg0
  let main_v85 : IVec S32x8736 32 := fn_where (F := F) main_v84 main_v82 main_v77
  let main_v86 : IVec S32x8736 32 := fn_where (F := F) main_v84 main_v78 main_v82
  let main_v87 : IVec S32x8736 32 := subi main_v86 main_v85
  let main_c_12 : IVec S_ 32 := constantI S_ 32 1#32
  let main_v88 : IVec S32x8736 32 := broadcastInDim S32x8736 ![] bcast_S_S32x8736 main_c_12
  let main_v89 : IVec S32x8736 32 := Host.shrui main_v87 main_v88
  let main_v90 : IVec S32x8736 32 := addi main_v85 main_v89
  let main_v91 : FVec F S32x8736 .f32 := bitcastToFloat .f32 main_v90
  let main_v92 : IVec S32x8736 1 := cmpf .ole main_v91 main_arg0
  let main_v93 : IVec S32x8736 32 := fn_where (F := F) main_v92 main_v90 main_v85
  let main_v94 : IVec S32x8736 32 := fn_where (F := F) main_v92 main_v86 main_v90
  let main_v95 : IVec S32x8736 32 := subi main_v94 main_v93
  let main_c_13 : IVec S_ 32 := constantI S_ 32 1#32
  let main_v96 : IVec S32x8736 32 := broadcastInDim S32x8736 ![] bcast_S_S32x8736 main_c_13
  let main_v97 : IVec S32x8736 32 := Host.shrui main_v95 main_v96
  let main_v98 : IVec S32x8736 32 := addi main_v93 main_v97
  let main_v99 : FVec F S32x8736 .f32 := bitcastToFloat .f32 main_v98
  let main_v100 : IVec S32x8736 1 := cmpf .ole main_v99 main_arg0
  let main_v101 : IVec S32x8736 32 := fn_where (F := F) main_v100 main_v98 main_v93
  let main_v102 : IVec S32x8736 32 := fn_where (F := F) main_v100 main_v94 main_v98
  let main_v103 : IVec S32x8736 32 := subi main_v102 main_v101
  fn_part5 (F := F) main_arg0 main_arg1 main_v4 main_v101 main_v102 main_v103

def fn_part3 {F : FTy → Type} [FloatOps F] (main_arg0 : FVec F S32x8736 .f32) (main_arg1 : FVec F S32x8 .f32) (main_v4 : IVec S32x8736 1) (main_v53 : IVec S32x8736 32) (main_v54 : IVec S32x8736 32) (main_v58 : IVec S32x8736 32) (main_v60 : IVec S32x8736 1) : IVec S_ 1 :=
  let main_v61 : IVec S32x8736 32 := fn_where (F := F) main_v60 main_v58 main_v53
  let main_v62 : IVec S32x8736 32 := fn_where (F := F) main_v60 main_v54 main_v58
  let main_v63 : IVec S32x8736 32 := subi main_v62 main_v61
  let main_c_9 : IVec S_ 32 := constantI S_ 32 1#32
  let main_v64 : IVec S32x8736 32 := broadcastInDim S32x8736 ![] bcast_S_S32x8736 main_c_9
  let main_v65 : IVec S32x8736 32 := Host.shrui main_v63 main_v64
  let main_v66 : IVec S32x8736 32 := addi main_v61 main_v65
  let main_v67 : FVec F S32x8736 .f32 := bitcastToFloat .f32 main_v66
  let main_v68 : IVec S32x8736 1 := cmpf .ole main_v67 main_arg0
  let main_v69 : IVec S32x8736 32 := fn_where (F := F) main_v68 main_v66 main_v61
  let main_v70 : IVec S32x8736 32 := fn_where (F := F) main_v68 main_v62 main_v66
  let main_v71 : IVec S32x8736 32 := subi main_v70 main_v69
  let main_c_10 : IVec S_ 32 := constantI S_ 32 1#32
  let main_v72 : IVec S32x8736 32 := broadcastInDim S32x8736 ![] bcast_S_S32x8736 main_c_10
  let main_v73 : IVec S32x8736 32 := Host.shrui main_v71 main_v72
  let main_v74 : IVec S32x8736 32 := addi main_v69 main_v73
  let main_v75 : FVec F S32x8736 .f32 := bitcastToFloat .f32 main_v74
  let main_v76 : IVec S32x8736 1 := cmpf .ole main_v75 main_arg0
  let main_v77 : IVec S32x8736 32 := fn_where (F := F) main_v76 main_v74 main_v69
  let main_v78 : IVec S32x8736 32 := fn_where (F := F) main_v76 main_v70 main_v74
  let main_v79 : IVec S32x8736 32 := subi main_v78 main_v77
  let main_c_11 : IVec S_ 32 := constantI S_ 32 1#32
  let main_v80 : IVec S32x8736 32 := broadcastInDim S32x8736 ![] bcast_S_S32x8736 main_c_11
  let main_v81 : IVec S32x8736 32 := Host.shrui main_v79 main_v80
  fn_part4 (F := F) main_arg0 main_arg1 main_v4 main_v77 main_v78 main_v81

def fn_part2 {F : FTy → Type} [FloatOps F] (main_arg0 : FVec F S32x8736 .f32) (main_arg1 : FVec F S32x8 .f32) (main_v4 : IVec S32x8736 1) (main_v37 : IVec S32x8736 32) (main_v38 : IVec S32x8736 32) (main_v39 : IVec S32x8736 32) : IVec S_ 1 :=
  let main_c_6 : IVec S_ 32 := constantI S_ 32 1#32
  let main_v40 : IVec S32x8736 32 := broadcastInDim S32x8736 ![] bcast_S_S32x8736 main_c_6
  let main_v41 : IVec S32x8736 32 := Host.shrui main_v39 main_v40
  let main_v42 : IVec S32x8736 32 := addi main_v37 main_v41
  let main_v43 : FVec F S32x8736 .f32 := bitcastToFloat .f32 main_v42
  let main_v44 : IVec S32x8736 1 := cmpf .ole main_v43 main_arg0
  let main_v45 : IVec S32x8736 32 := fn_where (F := F) main_v44 main_v42 main_v37
  let main_v46 : IVec S32x8736 32 := fn_where (F := F) main_v44 main_v38 main_v42
  let main_v47 : IVec S32x8736 32 := subi main_v46 main_v45
  let main_c_7 : IVec S_ 32 := constantI S_ 32 1#32
  let main_v48 : IVec S32x8736 32 := broadcastInDim S32x8736 ![] bcast_S_S32x8736 main_c_7
  let main_v49 : IVec S32x8736 32 := Host.shrui main_v47 main_v48
  let main_v50 : IVec S32x8736 32 := addi main_v45 main_v49
  let main_v51 : FVec F S32x8736 .f32 := bitcastToFloat .f32 main_v50
  let main_v52 : IVec S32x8736 1 := cmpf .ole main_v51 main_arg0
  let main_v53 : IVec S32x8736 32 := fn_where (F := F) main_v52 main_v50 main_v45
  let main_v54 : IVec S32x8736 32 := fn_where (F := F) main_v52 main_v46 main_v50
  let main_v55 : IVec S32x8736 32 := subi main_v54 main_v53
  let main_c_8 : IVec S_ 32 := constantI S_ 32 1#32
  let main_v56 : IVec S32x8736 32 := broadcastInDim S32x8736 ![] bcast_S_S32x8736 main_c_8
  let main_v57 : IVec S32x8736 32 := Host.shrui main_v55 main_v56
  let main_v58 : IVec S32x8736 32 := addi main_v53 main_v57
  let main_v59 : FVec F S32x8736 .f32 := bitcastToFloat .f32 main_v58
  let main_v60 : IVec S32x8736 1 := cmpf .ole main_v59 main_arg0
  fn_part3 (F := F) main_arg0 main_arg1 main_v4 main_v53 main_v54 main_v58 main_v60

def fn_part1 {F : FTy → Type} [FloatOps F] (main_arg0 : FVec F S32x8736 .f32) (main_arg1 : FVec F S32x8 .f32) (main_v4 : IVec S32x8736 1) (main_v13 : IVec S32x8736 32) (main_v14 : IVec S32x8736 32) (main_v17 : IVec S32x8736 32) : IVec S_ 1 :=
  let main_v18 : IVec S32x8736 32 := addi main_v13 main_v17
  let main_v19 : FVec F S32x8736 .f32 := bitcastToFloat .f32 main_v18
  let main_v20 : IVec S32x8736 1 := cmpf .ole main_v19 main_arg0
  let main_v21 : IVec S32x8736 32 := fn_where (F := F) main_v20 main_v18 main_v13
  let main_v22 : IVec S32x8736 32 := fn_where (F := F) main_v20 main_v14 main_v18
  let main_v23 : IVec S32x8736 32 := subi main_v22 main_v21
  let main_c_4 : IVec S_ 32 := constantI S_ 32 1#32
  let main_v24 : IVec S32x8736 32 := broadcastInDim S32x8736 ![] bcast_S_S32x8736 main_c_4
  let main_v25 : IVec S32x8736 32 := Host.shrui main_v23 main_v24
  let main_v26 : IVec S32x8736 32 := addi main_v21 main_v25
  let main_v27 : FVec F S32x8736 .f32 := bitcastToFloat .f32 main_v26
  let main_v28 : IVec S32x8736 1 := cmpf .ole main_v27 main_arg0
  let main_v29 : IVec S32x8736 32 := fn_where (F := F) main_v28 main_v26 main_v21
  let main_v30 : IVec S32x8736 32 := fn_where (F := F) main_v28 main_v22 main_v26
  let main_v31 : IVec S32x8736 32 := subi main_v30 main_v29
  let main_c_5 : IVec S_ 32 := constantI S_ 32 1#32
  let main_v32 : IVec S32x8736 32 := broadcastInDim S32x8736 ![] bcast_S_S32x8736 main_c_5
  let main_v33 : IVec S32x8736 32 := Host.shrui main_v31 main_v32
  let main_v34 : IVec S32x8736 32 := addi main_v29 main_v33
  let main_v35 : FVec F S32x8736 .f32 := bitcastToFloat .f32 main_v34
  let main_v36 : IVec S32x8736 1 := cmpf .ole main_v35 main_arg0
  let main_v37 : IVec S32x8736 32 := fn_where (F := F) main_v36 main_v34 main_v29
  let main_v38 : IVec S32x8736 32 := fn_where (F := F) main_v36 main_v30 main_v34
  let main_v39 : IVec S32x8736 32 := subi main_v38 main_v37
  fn_part2 (F := F) main_arg0 main_arg1 main_v4 main_v37 main_v38 main_v39

def fn {F : FTy → Type} [FloatOps F] (main_arg0 : FVec F S32x8736 .f32) (main_arg1 : FVec F S32x8 .f32) : IVec S_ 1 :=
  let main_cst : FVec F S_ .f32 := constant S_ .f32 0x00000000#32
  let main_v0 : FVec F S32x8736 .f32 := broadcastInDim S32x8736 ![] bcast_S_S32x8736 main_cst
  let main_v1 : IVec S32x8736 1 := cmpf .oge main_arg0 main_v0
  let main_cst_0 : FVec F S_ .f32 := constant S_ .f32 0x7F800000#32
  let main_v2 : FVec F S32x8736 .f32 := broadcastInDim S32x8736 ![] bcast_S_S32x8736 main_cst_0
  let main_v3 : IVec S32x8736 1 := cmpf .olt main_arg0 main_v2
  let main_v4 : IVec S32x8736 1 := andi main_v1 main_v3
  let main_c : IVec S_ 32 := constantI S_ 32 0#32
  let main_v5 : IVec S32x8736 32 := broadcastInDim S32x8736 ![] bcast_S_S32x8736 main_c
  let main_c_1 : IVec S_ 32 := constantI S_ 32 2139095040#32
  let main_v6 : IVec S32x8736 32 := broadcastInDim S32x8736 ![] bcast_S_S32x8736 main_c_1
  let main_v7 : IVec S32x8736 32 := subi main_v6 main_v5
  let main_c_2 : IVec S_ 32 := constantI S_ 32 1#32
  let main_v8 : IVec S32x8736 32 := broadcastInDim S32x8736 ![] bcast_S_S32x8736 main_c_2
  let main_v9 : IVec S32x8736 32 := Host.shrui main_v7 main_v8
  let main_v10 : IVec S32x8736 32 := addi main_v5 main_v9
  let main_v11 : FVec F S32x8736 .f32 := bitcastToFloat .f32 main_v10
  let main_v12 : IVec S32x8736 1 := cmpf .ole main_v11 main_arg0
  let main_v13 : IVec S32x8736 32 := fn_where (F := F) main_v12 main_v10 main_v5
  let main_v14 : IVec S32x8736 32 := fn_where (F := F) main_v12 main_v6 main_v10
  let main_v15 : IVec S32x8736 32 := subi main_v14 main_v13
  let main_c_3 : IVec S_ 32 := constantI S_ 32 1#32
  let main_v16 : IVec S32x8736 32 := broadcastInDim S32x8736 ![] bcast_S_S32x8736 main_c_3
  let main_v17 : IVec S32x8736 32 := Host.shrui main_v15 main_v16
  fn_part1 (F := F) main_arg0 main_arg1 main_v4 main_v13 main_v14 main_v17
-- ==== Loss.lean ====
abbrev S32x8732x4 : Shape := ⟨3, ![32, 8732, 4]⟩
abbrev S32x8732x21 : Shape := ⟨3, ![32, 8732, 21]⟩
abbrev S32x20x4 : Shape := ⟨3, ![32, 20, 4]⟩
abbrev S32x20 : Shape := ⟨2, ![32, 20]⟩
abbrev S8732x4 : Shape := ⟨2, ![8732, 4]⟩
abbrev S4x8 : Shape := ⟨2, ![4, 8]⟩
abbrev S32x21x8732 : Shape := ⟨3, ![32, 21, 8732]⟩
abbrev S_ : Shape := ⟨0, ![]⟩
abbrev S32x21x8736 : Shape := ⟨3, ![32, 21, 8736]⟩
abbrev S32x21x8x1092 : Shape := ⟨4, ![32, 21, 8, 1092]⟩
abbrev S32x4x8732 : Shape := ⟨3, ![32, 4, 8732]⟩
abbrev S32x4x8736 : Shape := ⟨3, ![32, 4, 8736]⟩
abbrev S32x4x8x1092 : Shape := ⟨4, ![32, 4, 8, 1092]⟩
abbrev S32x1x20 : Shape := ⟨3, ![32, 1, 20]⟩
abbrev S8732x8 : Shape := ⟨2, ![8732, 8]⟩
abbrev S8736x8 : Shape := ⟨2, ![8736, 8]⟩
abbrev S8x8736 : Shape := ⟨2, ![8, 8736]⟩
abbrev S8x8x1092 : Shape := ⟨3, ![8, 8, 1092]⟩
abbrev S32x1x8 : Shape := ⟨3, ![32, 1, 8]⟩
abbrev S32x8x1092 : Shape := ⟨3, ![32, 8, 1092]⟩
abbrev S1x21x8x1092 : Shape := ⟨4, ![1, 21, 8, 1092]⟩
abbrev S1x4x8x1092 : Shape := ⟨4, ![1, 4, 8, 1092]⟩
abbrev S1x20x4 : Shape := ⟨3, ![1, 20, 4]⟩
abbrev S1x1x20 : Shape := ⟨3, ![1, 1, 20]⟩
abbrev S1x1x8 : Shape := ⟨3, ![1, 1, 8]⟩
abbrev S1x8x1092 : Shape := ⟨3, ![1, 8, 1092]⟩
abbrev S21x8x1092 : Shape := ⟨3, ![21, 8, 1092]⟩
abbrev S4x8x1092 : Shape := ⟨3, ![4, 8, 1092]⟩
abbrev S20x4 : Shape := ⟨2, ![20, 4]⟩
abbrev S1x20 : Shape := ⟨2, ![1, 20]⟩
abbrev S8x1092 : Shape := ⟨2, ![8, 1092]⟩
abbrev S20x1 : Shape := ⟨2, ![20, 1]⟩
abbrev S20x1x1 : Shape := ⟨3, ![20, 1, 1]⟩
abbrev S20x8x1092 : Shape := ⟨3, ![20, 8, 1092]⟩
abbrev S20 : Shape := ⟨1, ![20]⟩
abbrev S1x1 : Shape := ⟨2, ![1, 1]⟩
abbrev S1 : Shape := ⟨1, ![1]⟩
abbrev S1x1x1 : Shape := ⟨3, ![1, 1, 1]⟩
abbrev S1x1x1x1 : Shape := ⟨4, ![1, 1, 1, 1]⟩
abbrev S1x8 : Shape := ⟨2, ![1, 8]⟩

abbrev nBuf : Space → Nat
  | .hbm => 26
  | .vmem => 13
  | .smem => 0
  | _ => 0

abbrev bufTy : (tb : Table) → Fin (tcTables nBuf tb) → BufTy
  | .hbm, ⟨0, _⟩ => ⟨S32x8732x4, .f32⟩
  | .hbm, ⟨1, _⟩ => ⟨S32x8732x21, .f32⟩
  | .hbm, ⟨2, _⟩ => ⟨S32x20x4, .f32⟩
  | .hbm, ⟨3, _⟩ => ⟨S32x20, .i32⟩
  | .hbm, ⟨4, _⟩ => ⟨S8732x4, .f32⟩
  | .hbm, ⟨5, _⟩ => ⟨S8732x4, .f32⟩
  | .hbm, ⟨6, _⟩ => ⟨S4x8, .f32⟩
  | .hbm, ⟨7, _⟩ => ⟨S32x8732x21, .bf16⟩
  | .hbm, ⟨8, _⟩ => ⟨S32x21x8732, .bf16⟩
  | .hbm, ⟨9, _⟩ => ⟨S_, .i32⟩
  | .hbm, ⟨10, _⟩ => ⟨S_, .bf16⟩
  | .hbm, ⟨11, _⟩ => ⟨S32x21x8736, .bf16⟩
  | .hbm, ⟨12, _⟩ => ⟨S32x21x8x1092, .bf16⟩
  | .hbm, ⟨13, _⟩ => ⟨S32x8732x4, .bf16⟩
  | .hbm, ⟨14, _⟩ => ⟨S32x4x8732, .bf16⟩
  | .hbm, ⟨15, _⟩ => ⟨S_, .i32⟩
  | .hbm, ⟨16, _⟩ => ⟨S_, .bf16⟩
  | .hbm, ⟨17, _⟩ => ⟨S32x4x8736, .bf16⟩
  | .hbm, ⟨18, _⟩ => ⟨S32x4x8x1092, .bf16⟩
  | .hbm, ⟨19, _⟩ => ⟨S32x1x20, .i32⟩
  | .hbm, ⟨20, _⟩ => ⟨S8732x8, .f32⟩
  | .hbm, ⟨21, _⟩ => ⟨S8736x8, .f32⟩
  | .hbm, ⟨22, _⟩ => ⟨S8x8736, .f32⟩
  | .hbm, ⟨23, _⟩ => ⟨S8x8x1092, .f32⟩
  | .hbm, ⟨24, _⟩ => ⟨S32x1x8, .f32⟩
  | .hbm, ⟨25, _⟩ => ⟨S32x8x1092, .f32⟩
  | .local _ .vmem, ⟨0, _⟩ => ⟨S1x21x8x1092, .bf16⟩
  | .local _ .vmem, ⟨1, _⟩ => ⟨S1x21x8x1092, .bf16⟩
  | .local _ .vmem, ⟨2, _⟩ => ⟨S1x4x8x1092, .bf16⟩
  | .local _ .vmem, ⟨3, _⟩ => ⟨S1x4x8x1092, .bf16⟩
  | .local _ .vmem, ⟨4, _⟩ => ⟨S1x20x4, .f32⟩
  | .local _ .vmem, ⟨5, _⟩ => ⟨S1x20x4, .f32⟩
  | .local _ .vmem, ⟨6, _⟩ => ⟨S1x1x20, .i32⟩
  | .local _ .vmem, ⟨7, _⟩ => ⟨S1x1x20, .i32⟩
  | .local _ .vmem, ⟨8, _⟩ => ⟨S8x8x1092, .f32⟩
  | .local _ .vmem, ⟨9, _⟩ => ⟨S1x1x8, .f32⟩
  | .local _ .vmem, ⟨10, _⟩ => ⟨S1x1x8, .f32⟩
  | .local _ .vmem, ⟨11, _⟩ => ⟨S1x8x1092, .f32⟩
  | .local _ .vmem, ⟨12, _⟩ => ⟨S1x8x1092, .f32⟩
  | _, _ => ⟨S32x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x8x1092 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8x1092 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x20 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x8x1092 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1092 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossIdeal.lean ====
variable {F : FTy → Type} [FloatOps F] [Named F]
def κ : String → Option EReal := fun
  | "tenth" => some ((1 / 10 : ℝ) : EReal)
  | _ => none
-- ==== LossRefIdeal.lean ====
abbrev S32x8732x4 : Shape := ⟨3, ![32, 8732, 4]⟩
abbrev S32x8732x21 : Shape := ⟨3, ![32, 8732, 21]⟩
abbrev S32x20x4 : Shape := ⟨3, ![32, 20, 4]⟩
abbrev S32x20 : Shape := ⟨2, ![32, 20]⟩
abbrev S8732x4 : Shape := ⟨2, ![8732, 4]⟩
abbrev S32 : Shape := ⟨1, ![32]⟩
abbrev S32x1 : Shape := ⟨2, ![32, 1]⟩
abbrev S32x20x2 : Shape := ⟨3, ![32, 20, 2]⟩
abbrev S32x20x1x2 : Shape := ⟨4, ![32, 20, 1, 2]⟩
abbrev S8732x2 : Shape := ⟨2, ![8732, 2]⟩
abbrev S1x8732x2 : Shape := ⟨3, ![1, 8732, 2]⟩
abbrev S1x1x8732x2 : Shape := ⟨4, ![1, 1, 8732, 2]⟩
abbrev S32x20x8732x2 : Shape := ⟨4, ![32, 20, 8732, 2]⟩
abbrev S_ : Shape := ⟨0, ![]⟩
abbrev S32x20x8732x1 : Shape := ⟨4, ![32, 20, 8732, 1]⟩
abbrev S32x20x8732 : Shape := ⟨3, ![32, 20, 8732]⟩
abbrev S32x20x1 : Shape := ⟨3, ![32, 20, 1]⟩
abbrev S8732x1 : Shape := ⟨2, ![8732, 1]⟩
abbrev S8732 : Shape := ⟨1, ![8732]⟩
abbrev S1x8732 : Shape := ⟨2, ![1, 8732]⟩
abbrev S1x1x8732 : Shape := ⟨3, ![1, 1, 8732]⟩
abbrev S32x8732 : Shape := ⟨2, ![32, 8732]⟩
abbrev S32x1x8732 : Shape := ⟨3, ![32, 1, 8732]⟩
abbrev S20 : Shape := ⟨1, ![20]⟩
abbrev S32x8732x1 : Shape := ⟨3, ![32, 8732, 1]⟩
abbrev S32x8732x2 : Shape := ⟨3, ![32, 8732, 2]⟩
abbrev S32x8732x1x1 : Shape := ⟨4, ![32, 8732, 1, 1]⟩
abbrev S1 : Shape := ⟨1, ![1]⟩
abbrev S1x1x1x1 : Shape := ⟨4, ![1, 1, 1, 1]⟩
abbrev S32x3 : Shape := ⟨2, ![32, 3]⟩
abbrev S32x8 : Shape := ⟨2, ![32, 8]⟩
abbrev S32x1x8 : Shape := ⟨3, ![32, 1, 8]⟩
abbrev S32x8736 : Shape := ⟨2, ![32, 8736]⟩
abbrev S32x8x1092 : Shape := ⟨3, ![32, 8, 1092]⟩

abbrev nBuf : Space → Nat
  | .hbm => 302
  | .vmem => 0
  | .smem => 0
  | _ => 0

abbrev hbmTy0_0 (i : Nat) : BufTy := match i % 128 with
  | 0 => ⟨S32x8732x4, .f32⟩
  | 1 => ⟨S32x8732x21, .f32⟩
  | 2 => ⟨S32x20x4, .f32⟩
  | 3 => ⟨S32x20, .i32⟩
  | 4 => ⟨S8732x4, .f32⟩
  | 5 => ⟨S8732x4, .f32⟩
  | 6 => ⟨S32, .i32⟩
  | 7 => ⟨S32x1, .i32⟩
  | 8 => ⟨S32x20x2, .f32⟩
  | 9 => ⟨S32x20x1x2, .f32⟩
  | 10 => ⟨S8732x2, .f32⟩
  | 11 => ⟨S1x8732x2, .f32⟩
  | 12 => ⟨S1x1x8732x2, .f32⟩
  | 13 => ⟨S32x20x8732x2, .f32⟩
  | 14 => ⟨S32x20x8732x2, .f32⟩
  | 15 => ⟨S32x20x8732x2, .f32⟩
  | 16 => ⟨S32x20x2, .f32⟩
  | 17 => ⟨S32x20x1x2, .f32⟩
  | 18 => ⟨S8732x2, .f32⟩
  | 19 => ⟨S1x8732x2, .f32⟩
  | 20 => ⟨S1x1x8732x2, .f32⟩
  | 21 => ⟨S32x20x8732x2, .f32⟩
  | 22 => ⟨S32x20x8732x2, .f32⟩
  | 23 => ⟨S32x20x8732x2, .f32⟩
  | 24 => ⟨S32x20x8732x2, .f32⟩
  | 25 => ⟨S_, .f32⟩
  | 26 => ⟨S_, .f32⟩
  | 27 => ⟨S32x20x8732x2, .f32⟩
  | 28 => ⟨S32x20x8732x2, .f32⟩
  | 29 => ⟨S32x20x8732x1, .f32⟩
  | 30 => ⟨S32x20x8732, .f32⟩
  | 31 => ⟨S32x20x8732x1, .f32⟩
  | 32 => ⟨S32x20x8732, .f32⟩
  | 33 => ⟨S32x20x8732, .f32⟩
  | 34 => ⟨S32x20x1, .f32⟩
  | 35 => ⟨S32x20, .f32⟩
  | 36 => ⟨S32x20x1, .f32⟩
  | 37 => ⟨S32x20, .f32⟩
  | 38 => ⟨S32x20, .f32⟩
  | 39 => ⟨S32x20x1, .f32⟩
  | 40 => ⟨S32x20, .f32⟩
  | 41 => ⟨S32x20x1, .f32⟩
  | 42 => ⟨S32x20, .f32⟩
  | 43 => ⟨S32x20, .f32⟩
  | 44 => ⟨S32x20, .f32⟩
  | 45 => ⟨S8732x1, .f32⟩
  | 46 => ⟨S8732, .f32⟩
  | 47 => ⟨S8732x1, .f32⟩
  | 48 => ⟨S8732, .f32⟩
  | 49 => ⟨S8732, .f32⟩
  | 50 => ⟨S8732x1, .f32⟩
  | 51 => ⟨S8732, .f32⟩
  | 52 => ⟨S8732x1, .f32⟩
  | 53 => ⟨S8732, .f32⟩
  | 54 => ⟨S8732, .f32⟩
  | 55 => ⟨S8732, .f32⟩
  | 56 => ⟨S32x20x1, .f32⟩
  | 57 => ⟨S1x8732, .f32⟩
  | 58 => ⟨S1x1x8732, .f32⟩
  | 59 => ⟨S32x20x8732, .f32⟩
  | 60 => ⟨S32x20x8732, .f32⟩
  | 61 => ⟨S32x20x8732, .f32⟩
  | 62 => ⟨S32x20x8732, .f32⟩
  | 63 => ⟨S_, .f32⟩
  | 64 => ⟨S32x20x8732, .f32⟩
  | 65 => ⟨S32x20x8732, .f32⟩
  | 66 => ⟨S32x20x8732, .f32⟩
  | 67 => ⟨S_, .f32⟩
  | 68 => ⟨S32x8732, .f32⟩
  | 69 => ⟨S32x20x8732, .i32⟩
  | 70 => ⟨S_, .f32⟩
  | 71 => ⟨S32x8732, .f32⟩
  | 72 => ⟨S32x1x8732, .f32⟩
  | 73 => ⟨S32x20x8732, .f32⟩
  | 74 => ⟨S32x20x8732, .i1⟩
  | 75 => ⟨S_, .i32⟩
  | 76 => ⟨S_, .i32⟩
  | 77 => ⟨S32x20x8732, .i32⟩
  | 78 => ⟨S32x20x8732, .i32⟩
  | 79 => ⟨S_, .i32⟩
  | 80 => ⟨S32x8732, .i32⟩
  | 81 => ⟨S32x20x8732, .i32⟩
  | 82 => ⟨S_, .f32⟩
  | 83 => ⟨S32x20, .f32⟩
  | 84 => ⟨S32x20x1, .f32⟩
  | 85 => ⟨S32x20x8732, .f32⟩
  | 86 => ⟨S32x20x8732, .i1⟩
  | 87 => ⟨S_, .i32⟩
  | 88 => ⟨S_, .i32⟩
  | 89 => ⟨S32x20x8732, .i32⟩
  | 90 => ⟨S32x20x8732, .i32⟩
  | 91 => ⟨S_, .i32⟩
  | 92 => ⟨S32x20, .i32⟩
  | 93 => ⟨S20, .i32⟩
  | 94 => ⟨S_, .i32⟩
  | 95 => ⟨S32x1, .i32⟩
  | 96 => ⟨S32x1, .i1⟩
  | 97 => ⟨S_, .i32⟩
  | 98 => ⟨S32x1, .i32⟩
  | 99 => ⟨S32x1, .i32⟩
  | 100 => ⟨S32x1, .i32⟩
  | 101 => ⟨S_, .i32⟩
  | 102 => ⟨S32x20, .i32⟩
  | 103 => ⟨S32x20, .i1⟩
  | 104 => ⟨S_, .i32⟩
  | 105 => ⟨S32x20, .i32⟩
  | 106 => ⟨S32x20, .i32⟩
  | 107 => ⟨S32x20, .i32⟩
  | 108 => ⟨S32x20, .i32⟩
  | 109 => ⟨S32x20x1, .i32⟩
  | 110 => ⟨S32x20x1, .i32⟩
  | 111 => ⟨S32x20x2, .i32⟩
  | 112 => ⟨S32x20, .i32⟩
  | 113 => ⟨S32x8732, .i32⟩
  | 114 => ⟨S_, .i32⟩
  | 115 => ⟨S32x1, .i32⟩
  | 116 => ⟨S32x1, .i1⟩
  | 117 => ⟨S_, .i32⟩
  | 118 => ⟨S32x1, .i32⟩
  | 119 => ⟨S32x1, .i32⟩
  | 120 => ⟨S32x1, .i32⟩
  | 121 => ⟨S_, .i32⟩
  | 122 => ⟨S32x20, .i32⟩
  | 123 => ⟨S32x20, .i1⟩
  | 124 => ⟨S_, .i32⟩
  | 125 => ⟨S32x20, .i32⟩
  | 126 => ⟨S32x20, .i32⟩
  | 127 => ⟨S32x20, .i32⟩
  | _ => ⟨S32x8732x4, .f32⟩

abbrev hbmTy0_1 (i : Nat) : BufTy := match i % 128 with
  | 0 => ⟨S32x20, .i32⟩
  | 1 => ⟨S32x20x1, .i32⟩
  | 2 => ⟨S32x20x1, .i32⟩
  | 3 => ⟨S32x20x2, .i32⟩
  | 4 => ⟨S_, .f32⟩
  | 5 => ⟨S32x20, .f32⟩
  | 6 => ⟨S32x8732, .f32⟩
  | 7 => ⟨S_, .i32⟩
  | 8 => ⟨S32x1, .i32⟩
  | 9 => ⟨S32x1, .i1⟩
  | 10 => ⟨S_, .i32⟩
  | 11 => ⟨S32x1, .i32⟩
  | 12 => ⟨S32x1, .i32⟩
  | 13 => ⟨S32x1, .i32⟩
  | 14 => ⟨S_, .i32⟩
  | 15 => ⟨S32x8732, .i32⟩
  | 16 => ⟨S32x8732, .i1⟩
  | 17 => ⟨S_, .i32⟩
  | 18 => ⟨S32x8732, .i32⟩
  | 19 => ⟨S32x8732, .i32⟩
  | 20 => ⟨S32x8732, .i32⟩
  | 21 => ⟨S32x8732, .i32⟩
  | 22 => ⟨S32x8732x1, .i32⟩
  | 23 => ⟨S32x8732x1, .i32⟩
  | 24 => ⟨S32x8732x2, .i32⟩
  | 25 => ⟨S32x8732, .i32⟩
  | 26 => ⟨S_, .f32⟩
  | 27 => ⟨S32x8732, .f32⟩
  | 28 => ⟨S32x8732, .i1⟩
  | 29 => ⟨S_, .i32⟩
  | 30 => ⟨S_, .i32⟩
  | 31 => ⟨S32x8732, .i32⟩
  | 32 => ⟨S32x8732, .i32⟩
  | 33 => ⟨S_, .i32⟩
  | 34 => ⟨S32x1, .i32⟩
  | 35 => ⟨S32x1, .i1⟩
  | 36 => ⟨S_, .i32⟩
  | 37 => ⟨S32x1, .i32⟩
  | 38 => ⟨S32x1, .i32⟩
  | 39 => ⟨S32x1, .i32⟩
  | 40 => ⟨S_, .i32⟩
  | 41 => ⟨S32x8732, .i32⟩
  | 42 => ⟨S32x8732, .i1⟩
  | 43 => ⟨S_, .i32⟩
  | 44 => ⟨S32x8732, .i32⟩
  | 45 => ⟨S32x8732, .i32⟩
  | 46 => ⟨S32x8732, .i32⟩
  | 47 => ⟨S32x8732, .i32⟩
  | 48 => ⟨S32x8732x1, .i32⟩
  | 49 => ⟨S32x8732x1, .i32⟩
  | 50 => ⟨S32x8732x2, .i32⟩
  | 51 => ⟨S32x8732x4, .f32⟩
  | 52 => ⟨S32x8732x2, .f32⟩
  | 53 => ⟨S32x8732x2, .f32⟩
  | 54 => ⟨S32x8732x2, .f32⟩
  | 55 => ⟨S_, .f32⟩
  | 56 => ⟨S32x8732x2, .f32⟩
  | 57 => ⟨S32x8732x2, .f32⟩
  | 58 => ⟨S32x8732x2, .f32⟩
  | 59 => ⟨S32x8732x2, .f32⟩
  | 60 => ⟨S32x8732x2, .f32⟩
  | 61 => ⟨S32x8732x4, .f32⟩
  | 62 => ⟨S32x8732x2, .f32⟩
  | 63 => ⟨S8732x2, .f32⟩
  | 64 => ⟨S1x8732x2, .f32⟩
  | 65 => ⟨S32x8732x2, .f32⟩
  | 66 => ⟨S32x8732x2, .f32⟩
  | 67 => ⟨S8732x2, .f32⟩
  | 68 => ⟨S_, .f32⟩
  | 69 => ⟨S8732x2, .f32⟩
  | 70 => ⟨S8732x2, .f32⟩
  | 71 => ⟨S1x8732x2, .f32⟩
  | 72 => ⟨S32x8732x2, .f32⟩
  | 73 => ⟨S32x8732x2, .f32⟩
  | 74 => ⟨S32x8732x2, .f32⟩
  | 75 => ⟨S_, .f32⟩
  | 76 => ⟨S32x8732x2, .f32⟩
  | 77 => ⟨S32x8732x2, .f32⟩
  | 78 => ⟨S8732x2, .f32⟩
  | 79 => ⟨S_, .f32⟩
  | 80 => ⟨S8732x2, .f32⟩
  | 81 => ⟨S8732x2, .f32⟩
  | 82 => ⟨S1x8732x2, .f32⟩
  | 83 => ⟨S32x8732x2, .f32⟩
  | 84 => ⟨S32x8732x2, .f32⟩
  | 85 => ⟨S32x8732x2, .f32⟩
  | 86 => ⟨S_, .f32⟩
  | 87 => ⟨S32x8732x2, .f32⟩
  | 88 => ⟨S32x8732x2, .f32⟩
  | 89 => ⟨S32x8732x4, .f32⟩
  | 90 => ⟨S_, .i32⟩
  | 91 => ⟨S32x8732, .i32⟩
  | 92 => ⟨S32x8732, .i1⟩
  | 93 => ⟨S32x8732x4, .f32⟩
  | 94 => ⟨S32x8732x4, .f32⟩
  | 95 => ⟨S_, .f32⟩
  | 96 => ⟨S32x8732x4, .f32⟩
  | 97 => ⟨S32x8732x4, .i1⟩
  | 98 => ⟨S_, .f32⟩
  | 99 => ⟨S32x8732x4, .f32⟩
  | 100 => ⟨S32x8732x4, .f32⟩
  | 101 => ⟨S32x8732x4, .f32⟩
  | 102 => ⟨S_, .f32⟩
  | 103 => ⟨S32x8732x4, .f32⟩
  | 104 => ⟨S32x8732x4, .f32⟩
  | 105 => ⟨S32x8732x4, .f32⟩
  | 106 => ⟨S32x8732x1, .i1⟩
  | 107 => ⟨S32x8732x1, .f32⟩
  | 108 => ⟨S32x8732x4, .f32⟩
  | 109 => ⟨S32x8732x4, .f32⟩
  | 110 => ⟨S_, .f32⟩
  | 111 => ⟨S32x8732, .f32⟩
  | 112 => ⟨S_, .f32⟩
  | 113 => ⟨S32x8732, .f32⟩
  | 114 => ⟨S32x8732, .f32⟩
  | 115 => ⟨S32x8732x1, .f32⟩
  | 116 => ⟨S32x8732x21, .f32⟩
  | 117 => ⟨S32x8732x21, .f32⟩
  | 118 => ⟨S32x8732x21, .f32⟩
  | 119 => ⟨S_, .f32⟩
  | 120 => ⟨S32x8732, .f32⟩
  | 121 => ⟨S32x8732x1, .f32⟩
  | 122 => ⟨S32x8732x1, .f32⟩
  | 123 => ⟨S32x8732x21, .f32⟩
  | 124 => ⟨S32x8732x21, .f32⟩
  | 125 => ⟨S32x8732x1, .i32⟩
  | 126 => ⟨S_, .i32⟩
  | 127 => ⟨S32x8732x1, .i32⟩
  | _ => ⟨S32x8732x4, .f32⟩

abbrev hbmTy0_2 (i : Nat) : BufTy := match i % 128 with
  | 0 => ⟨S32x8732x1, .i1⟩
  | 1 => ⟨S_, .i32⟩
  | 2 => ⟨S32x8732x1, .i32⟩
  | 3 => ⟨S32x8732x1, .i32⟩
  | 4 => ⟨S32x8732x1, .i32⟩
  | 5 => ⟨S32x8732x1x1, .i32⟩
  | 6 => ⟨S1, .i32⟩
  | 7 => ⟨S_, .i32⟩
  | 8 => ⟨S32x8732x1x1, .i32⟩
  | 9 => ⟨S32x8732x1x1, .i1⟩
  | 10 => ⟨S1x1x1x1, .i32⟩
  | 11 => ⟨S32x8732x1x1, .i32⟩
  | 12 => ⟨S32x8732x1x1, .i1⟩
  | 13 => ⟨S32x8732x1x1, .i1⟩
  | 14 => ⟨S_, .i1⟩
  | 15 => ⟨S32x8732x1, .i1⟩
  | 16 => ⟨S32x8732x1, .f32⟩
  | 17 => ⟨S_, .f32⟩
  | 18 => ⟨S32x8732x1, .f32⟩
  | 19 => ⟨S32x8732x1, .f32⟩
  | 20 => ⟨S32x8732, .f32⟩
  | 21 => ⟨S32x8732, .f32⟩
  | 22 => ⟨S32x8732, .f32⟩
  | 23 => ⟨S32x8732, .f32⟩
  | 24 => ⟨S_, .f32⟩
  | 25 => ⟨S_, .f32⟩
  | 26 => ⟨S32x8732, .f32⟩
  | 27 => ⟨S32x8732, .f32⟩
  | 28 => ⟨S_, .f32⟩
  | 29 => ⟨S32, .f32⟩
  | 30 => ⟨S_, .f32⟩
  | 31 => ⟨S32, .f32⟩
  | 32 => ⟨S_, .f32⟩
  | 33 => ⟨S32, .f32⟩
  | 34 => ⟨S32x1, .f32⟩
  | 35 => ⟨S32x1, .f32⟩
  | 36 => ⟨S32x1, .f32⟩
  | 37 => ⟨S32x3, .f32⟩
  | 38 => ⟨S_, .i32⟩
  | 39 => ⟨S_, .f32⟩
  | 40 => ⟨S32x8, .f32⟩
  | 41 => ⟨S32x1x8, .f32⟩
  | 42 => ⟨S_, .i32⟩
  | 43 => ⟨S_, .f32⟩
  | 44 => ⟨S32x8736, .f32⟩
  | 45 => ⟨S32x8x1092, .f32⟩
  | _ => ⟨S32x8732x4, .f32⟩

abbrev hbmTy (i : Nat) : BufTy := match i / 128 with
  | 0 => hbmTy0_0 i
  | 1 => hbmTy0_1 i
  | 2 => hbmTy0_2 i
  | _ => ⟨S32x8732x4, .f32⟩

abbrev bufTy : (tb : Table) → Fin (tcTables nBuf tb) → BufTy
  | .hbm, ⟨i, _⟩ => hbmTy i
  | _, _ => ⟨S32x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_0 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_1 : Ref sig .tc := ⟨.hbm, 67, rfl⟩
abbrev main_v57 : Ref sig .tc := ⟨.hbm, 68, rfl⟩
abbrev main_v58 : Ref sig .tc := ⟨.hbm, 69, rfl⟩
abbrev main_cst_2 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_c : Ref sig .tc := ⟨.hbm, 75, rfl⟩
abbrev main_call1_v0 : Ref sig .tc := ⟨.hbm, 76, rfl⟩
abbrev main_call1_v1 : Ref sig .tc := ⟨.hbm, 77, rfl⟩
abbrev main_v63 : Ref sig .tc := ⟨.hbm, 78, rfl⟩
abbrev main_c_3 : Ref sig .tc := ⟨.hbm, 79, rfl⟩
abbrev main_v64 : Ref sig .tc := ⟨.hbm, 80, rfl⟩
abbrev main_v65 : Ref sig .tc := ⟨.hbm, 81, rfl⟩
abbrev main_cst_4 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_5 : Ref sig .tc := ⟨.hbm, 87, rfl⟩
abbrev main_call2_v0 : Ref sig .tc := ⟨.hbm, 88, rfl⟩
abbrev main_call2_v1 : Ref sig .tc := ⟨.hbm, 89, rfl⟩
abbrev main_v70 : Ref sig .tc := ⟨.hbm, 90, rfl⟩
abbrev main_c_6 : Ref sig .tc := ⟨.hbm, 91, rfl⟩
abbrev main_v71 : Ref sig .tc := ⟨.hbm, 92, rfl⟩
abbrev main_v72 : Ref sig .tc := ⟨.hbm, 93, rfl⟩
abbrev main_c_7 : Ref sig .tc := ⟨.hbm, 94, rfl⟩
abbrev main_v73 : Ref sig .tc := ⟨.hbm, 95, rfl⟩
abbrev main_v74 : Ref sig .tc := ⟨.hbm, 96, rfl⟩
abbrev main_c_8 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_9 : Ref sig .tc := ⟨.hbm, 101, rfl⟩
abbrev main_v78 : Ref sig .tc := ⟨.hbm, 102, rfl⟩
abbrev main_v79 : Ref sig .tc := ⟨.hbm, 103, rfl⟩
abbrev main_c_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_11 : Ref sig .tc := ⟨.hbm, 114, rfl⟩
abbrev main_v89 : Ref sig .tc := ⟨.hbm, 115, rfl⟩
abbrev main_v90 : Ref sig .tc := ⟨.hbm, 116, rfl⟩
abbrev main_c_12 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_c_13 : Ref sig .tc := ⟨.hbm, 121, rfl⟩
abbrev main_v94 : Ref sig .tc := ⟨.hbm, 122, rfl⟩
abbrev main_v95 : Ref sig .tc := ⟨.hbm, 123, rfl⟩
abbrev main_c_14 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_15 : Ref sig .tc := ⟨.hbm, 132, rfl⟩
abbrev main_v103 : Ref sig .tc := ⟨.hbm, 133, rfl⟩
abbrev main_v104 : Ref sig .tc := ⟨.hbm, 134, rfl⟩
abbrev main_c_16 : Ref sig .tc := ⟨.hbm, 135, rfl⟩
abbrev main_v105 : Ref sig .tc := ⟨.hbm, 136, rfl⟩
abbrev main_v106 : Ref sig .tc := ⟨.hbm, 137, rfl⟩
abbrev main_c_17 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_18 : Ref sig .tc := ⟨.hbm, 142, rfl⟩
abbrev main_v110 : Ref sig .tc := ⟨.hbm, 143, rfl⟩
abbrev main_v111 : Ref sig .tc := ⟨.hbm, 144, rfl⟩
abbrev main_c_19 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_20 : Ref sig .tc := ⟨.hbm, 154, rfl⟩
abbrev main_v120 : Ref sig .tc := ⟨.hbm, 155, rfl⟩
abbrev main_v121 : Ref sig .tc := ⟨.hbm, 156, rfl⟩
abbrev main_c_21 : Ref sig .tc := ⟨.hbm, 157, rfl⟩
abbrev main_call3_v0 : Ref sig .tc := ⟨.hbm, 158, rfl⟩
abbrev main_call3_v1 : Ref sig .tc := ⟨.hbm, 159, rfl⟩
abbrev main_v122 : Ref sig .tc := ⟨.hbm, 160, rfl⟩
abbrev main_c_22 : Ref sig .tc := ⟨.hbm, 161, rfl⟩
abbrev main_v123 : Ref sig .tc := ⟨.hbm, 162, rfl⟩
abbrev main_v124 : Ref sig .tc := ⟨.hbm, 163, rfl⟩
abbrev main_c_23 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_c_24 : Ref sig .tc := ⟨.hbm, 168, rfl⟩
abbrev main_v128 : Ref sig .tc := ⟨.hbm, 169, rfl⟩
abbrev main_v129 : Ref sig .tc := ⟨.hbm, 170, rfl⟩
abbrev main_c_25 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_26 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_27 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_28 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_29 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_30 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_c_31 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_cst_32 : Ref sig .tc := ⟨.hbm, 223, rfl⟩
abbrev main_v175 : Ref sig .tc := ⟨.hbm, 224, rfl⟩
abbrev main_v176 : Ref sig .tc := ⟨.hbm, 225, rfl⟩
abbrev main_cst_33 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_34 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_call5_cst : Ref sig .tc := ⟨.hbm, 238, rfl⟩
abbrev main_call5_v0 : Ref sig .tc := ⟨.hbm, 239, rfl⟩
abbrev main_call5_cst_0 : Ref sig .tc := ⟨.hbm, 240, rfl⟩
abbrev main_call5_v1 : Ref sig .tc := ⟨.hbm, 241, rfl⟩
abbrev main_call5_v2 : Ref sig .tc := ⟨.hbm, 242, rfl⟩
abbrev main_call5_v3 : Ref sig .tc := ⟨.hbm, 243, rfl⟩
abbrev main_call5_v4 : Ref sig .tc := ⟨.hbm, 244, rfl⟩
abbrev main_call5_v5 : Ref sig .tc := ⟨.hbm, 245, rfl⟩
abbrev main_call5_v6 : Ref sig .tc := ⟨.hbm, 246, rfl⟩
abbrev main_call5_cst_1 : Ref sig .tc := ⟨.hbm, 247, rfl⟩
abbrev main_call5_v7 : Ref sig .tc := ⟨.hbm, 248, rfl⟩
abbrev main_call5_v8 : Ref sig .tc := ⟨.hbm, 249, rfl⟩
abbrev main_call5_v9 : Ref sig .tc := ⟨.hbm, 250, rfl⟩
abbrev main_call5_v10 : Ref sig .tc := ⟨.hbm, 251, rfl⟩
abbrev main_v187 : Ref sig .tc := ⟨.hbm, 252, rfl⟩
abbrev main_v188 : Ref sig .tc := ⟨.hbm, 253, rfl⟩
abbrev main_call6_c : Ref sig .tc := ⟨.hbm, 254, rfl⟩
abbrev main_call6_v0 : Ref sig .tc := ⟨.hbm, 255, rfl⟩
abbrev main_call6_v1 : Ref sig .tc := ⟨.hbm, 256, rfl⟩
abbrev main_call6_c_0 : Ref sig .tc := ⟨.hbm, 257, rfl⟩
abbrev main_call6_v2 : Ref sig .tc := ⟨.hbm, 258, rfl⟩
abbrev main_call6_v3 : Ref sig .tc := ⟨.hbm, 259, rfl⟩
abbrev main_call6_v4 : Ref sig .tc := ⟨.hbm, 260, rfl⟩
abbrev main_call6_v5 : Ref sig .tc := ⟨.hbm, 261, rfl⟩
abbrev main_call6_c_1 : Ref sig .tc := ⟨.hbm, 262, rfl⟩
abbrev main_call6_c_2 : Ref sig .tc := ⟨.hbm, 263, rfl⟩
abbrev main_call6_v6 : Ref sig .tc := ⟨.hbm, 264, rfl⟩
abbrev main_call6_v7 : Ref sig .tc := ⟨.hbm, 265, rfl⟩
abbrev main_call6_v8 : Ref sig .tc := ⟨.hbm, 266, rfl⟩
abbrev main_call6_v9 : Ref sig .tc := ⟨.hbm, 267, rfl⟩
abbrev main_call6_v10 : Ref sig .tc := ⟨.hbm, 268, rfl⟩
abbrev main_call6_v11 : Ref sig .tc := ⟨.hbm, 269, rfl⟩
abbrev main_call6_c_3 : Ref sig .tc := ⟨.hbm, 270, rfl⟩
abbrev main_call6_v12 : Ref sig .tc := ⟨.hbm, 271, rfl⟩
abbrev main_call6_v13 : Ref sig .tc := ⟨.hbm, 272, rfl⟩
abbrev main_call6_cst : Ref sig .tc := ⟨.hbm, 273, rfl⟩
abbrev main_call6_v14 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_cst_35 : Ref sig .tc := ⟨.hbm, 280, rfl⟩
abbrev main_call7_v0 : Ref sig .tc := ⟨.hbm, 281, rfl⟩
abbrev main_call7_v1 : Ref sig .tc := ⟨.hbm, 282, rfl⟩
abbrev main_v194 : Ref sig .tc := ⟨.hbm, 283, rfl⟩
abbrev main_cst_36 : Ref sig .tc := ⟨.hbm, 284, rfl⟩
abbrev main_v195 : Ref sig .tc := ⟨.hbm, 285, rfl⟩
abbrev main_cst_37 : Ref sig .tc := ⟨.hbm, 286, rfl⟩
abbrev main_v196 : Ref sig .tc := ⟨.hbm, 287, rfl⟩
abbrev main_cst_38 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_c_39 : Ref sig .tc := ⟨.hbm, 294, rfl⟩
abbrev main_call8_v0 : Ref sig .tc := ⟨.hbm, 295, rfl⟩
abbrev main_v202 : Ref sig .tc := ⟨.hbm, 296, rfl⟩
abbrev main_v203 : Ref sig .tc := ⟨.hbm, 297, rfl⟩
abbrev main_c_40 : Ref sig .tc := ⟨.hbm, 298, rfl⟩
abbrev main_call9_v0 : Ref sig .tc := ⟨.hbm, 299, rfl⟩
abbrev main_v204 : Ref sig .tc := ⟨.hbm, 300, rfl⟩
abbrev main_v205 : Ref sig .tc := ⟨.hbm, 301, rfl⟩

abbrev nD : Nat := 1
abbrev τ : Topo := Topo.v7x

variable {F : FTy → Type} [FloatOps F]
-- ==== Mine.lean ====
abbrev S32x8736 : Shape := ⟨2, ![32, 8736]⟩
abbrev S32x8 : Shape := ⟨2, ![32, 8]⟩
abbrev S1x8 : Shape := ⟨2, ![1, 8]⟩
abbrev S32x1 : Shape := ⟨2, ![32, 1]⟩
abbrev S32 : Shape := ⟨1, ![32]⟩
abbrev S1x32x1 : Shape := ⟨3, ![1, 32, 1]⟩
abbrev S1 : Shape := ⟨1, ![1]⟩
abbrev S1x1x1 : Shape := ⟨3, ![1, 1, 1]⟩
abbrev S_ : Shape := ⟨0, ![]⟩
abbrev S1x1 : Shape := ⟨2, ![1, 1]⟩

abbrev nBuf : Space → Nat
  | .hbm => 27
  | .vmem => 3
  | .smem => 0
  | _ => 0

abbrev bufTy : (tb : Table) → Fin (tcTables nBuf tb) → BufTy
  | .hbm, ⟨0, _⟩ => ⟨S32x8736, .f32⟩
  | .hbm, ⟨1, _⟩ => ⟨S32x8, .f32⟩
  | .hbm, ⟨2, _⟩ => ⟨S1x8, .f32⟩
  | .hbm, ⟨3, _⟩ => ⟨S32x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S32x1, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32x1, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S32x8736, .f32⟩
  | .local _ .vmem, ⟨1, _⟩ => ⟨S32x8, .f32⟩
  | .local _ .vmem, ⟨2, _⟩ => ⟨S1x8, .f32⟩
  | _, _ => ⟨S32x8736, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_4 : BitVec 32 := 0#32
  let c31_i32 : BitVec 32 := 31#32
  let v8 : BitVec 32 := Scalar.addi c0_i32_4 c31_i32
  let c1_i32 : BitVec 32 := 1#32
  ⟨c0_i32_4, v8, c1_i32⟩
abbrev stage0_0 : Fin 1 → Memref sig .tc .vmem S32x8736 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== MineRefIdeal.lean ====
abbrev S32x8736 : Shape := ⟨2, ![32, 8736]⟩
abbrev S32x8 : Shape := ⟨2, ![32, 8]⟩
abbrev S32x8732 : Shape := ⟨2, ![32, 8732]⟩
abbrev S32x1 : Shape := ⟨2, ![32, 1]⟩
abbrev S32 : Shape := ⟨1, ![32]⟩
abbrev S_ : Shape := ⟨0, ![]⟩
abbrev S8732 : Shape := ⟨1, ![8732]⟩
abbrev S1x8732 : Shape := ⟨2, ![1, 8732]⟩
abbrev S1x1 : Shape := ⟨2, ![1, 1]⟩
abbrev S1x8 : Shape := ⟨2, ![1, 8]⟩

abbrev nBuf : Space → Nat
  | .hbm => 47
  | .vmem => 0
  | .smem => 0
  | _ => 0

abbrev bufTy : (tb : Table) → Fin (tcTables nBuf tb) → BufTy
  | .hbm, ⟨0, _⟩ => ⟨S32x8736, .f32⟩
  | .hbm, ⟨1, _⟩ => ⟨S32x8, .f32⟩
  | .hbm, ⟨2, _⟩ => ⟨S32x8732, .f32⟩
  | .hbm, ⟨3, _⟩ => ⟨S32x1, .f32⟩
  | .hbm, ⟨4, _⟩ => ⟨S32, .f32⟩
  | .hbm, ⟨5, _⟩ => ⟨S32x8732, .f32⟩
  | .hbm, ⟨6, _⟩ => ⟨S32x8732, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S8732, .i32⟩
  | .hbm, ⟨11, _⟩ => ⟨S8732, .f32⟩
  | .hbm, ⟨12, _⟩ => ⟨S1x8732, .f32⟩
  | .hbm, ⟨13, _⟩ => ⟨S32x1, .f32⟩
  | .hbm, ⟨14, _⟩ => ⟨S32x8732, .f32⟩
  | .hbm, ⟨15, _⟩ => ⟨S32x8732, .f32⟩
  | .hbm, ⟨16, _⟩ => ⟨S32x8732, .i1⟩
  | .hbm, ⟨17, _⟩ => ⟨S32x8732, .f32⟩
  | .hbm, ⟨18, _⟩ => ⟨S32x8732, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S_, .i32⟩
  | .hbm, ⟨23, _⟩ => ⟨S_, .f32⟩
  | .hbm, ⟨24, _⟩ => ⟨S1x8, .f32⟩
  | .hbm, ⟨25, _⟩ => ⟨S32x1, .f32⟩
  | .hbm, ⟨26, _⟩ => ⟨S32, .f32⟩
  | .hbm, ⟨27, _⟩ => ⟨S32x1, .f32⟩
  | .hbm, ⟨28, _⟩ => ⟨S32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S32x8736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call2_v0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.First.lean ====
module

public import Idealize.ShloMosaic.Lib.Pointwise
public import Idealize.ShloMosaic.Lib.SortNet.Extract

/-! Facts about the least index at which a function is largest, the way a kernel finds it (a running maximum, or a least
    index among those that reach the maximum), and about the last hit in a list. Nothing here mentions a program. -/

@[expose] public section
noncomputable section
namespace Cert.Multibox
open Idealize.ShloMosaic

/-- `a` is the least index at which `f` is largest. -/
def IsFirstMax {n : ℕ} (f : Fin n → EReal) (a : Fin n) : Prop :=
  (∀ i, f i ≤ f a) ∧ ∀ i, f i = f a → a ≤ i

theorem IsFirstMax.unique {n : ℕ} {f : Fin n → EReal} {a b : Fin n} (ha : IsFirstMax f a) (hb : IsFirstMax f b) : a = b :=
  le_antisymm (ha.2 b (le_antisymm (ha.1 b) (hb.1 a))) (hb.2 a (le_antisymm (hb.1 a) (ha.1 b)))

theorem exists_isFirstMax {n : ℕ} [NeZero n] (f : Fin n → EReal) : ∃ a, IsFirstMax f a := by
  obtain ⟨m, -, hm⟩ := Finset.exists_max_image Finset.univ f ⟨0, Finset.mem_univ _⟩
  obtain ⟨a, ha, hmin⟩ := Finset.exists_min_image (Finset.univ.filter fun i => f i = f m) id ⟨m, by simp⟩
  have ham : f a = f m := (Finset.mem_filter.1 ha).2
  exact ⟨a, fun i => ham ▸ hm i (Finset.mem_univ _),
    fun i hi => hmin i (Finset.mem_filter.2 ⟨Finset.mem_univ _, hi.trans ham⟩)⟩

/-- The least index at which `f` is largest. -/
def firstMax {n : ℕ} [NeZero n] (f : Fin n → EReal) : Fin n := Classical.choose (exists_isFirstMax f)

theorem firstMax_spec {n : ℕ} [NeZero n] (f : Fin n → EReal) : IsFirstMax f (firstMax f) :=
  Classical.choose_spec (exists_isFirstMax f)

theorem firstMax_eq {n : ℕ} [NeZero n] {f : Fin n → EReal} {a : Fin n} (h : IsFirstMax f a) : firstMax f = a :=
  (firstMax_spec f).unique h

/-- The fold of the maximum over a finite type, from the least value, is the value at any index that bounds the others. -/
theorem fold_max_eq {ι : Type*} [Fintype ι] (f : ι → EReal) (a : ι) (h : ∀ i, f i ≤ f a) :
    Finset.fold max ⊥ f Finset.univ = f a :=
  le_antisymm ((Finset.fold_max_le _).2 ⟨bot_le, fun i _ => h i⟩)
    ((Finset.le_fold_max _).2 (.inr ⟨a, Finset.mem_univ _, le_rfl⟩))

theorem toInt_ofNat_small {n : ℕ} (h : n < 2147483648) : (BitVec.ofNat 32 n).toInt = n := by
  rw [BitVec.toInt_ofNat']
  simp only [Int.bmod_def]
  omega

/-- The least index among those that reach the maximum, as a signed fold over words: the word of the first one's index. -/
theorem fold_minsi_eq {ι : Type*} [Fintype ι] (f : ι → EReal) (g : ι → ℕ) (n : ℕ) (a : ι) (hn : n < 2147483648)
    (hg : ∀ i, g i < n) (h : ∀ i, f i ≤ f a) (hm : ∀ i, f i = f a → g a ≤ g i) :
    Finset.fold IntOp.minsi 2147483647#32
      (fun i => if f i = Finset.fold max ⊥ f Finset.univ then BitVec.ofNat 32 (g i) else BitVec.ofNat 32 n) Finset.univ
      = BitVec.ofNat 32 (g a) := by
  rw [fold_max_eq f a h]
  have key : ∀ c : BitVec 32, c.toInt ≤ (Finset.fold IntOp.minsi 2147483647#32
      (fun i => if f i = f a then BitVec.ofNat 32 (g i) else BitVec.ofNat 32 n) Finset.univ).toInt ↔
      c.toInt ≤ (2147483647#32 : BitVec 32).toInt ∧ ∀ i ∈ (Finset.univ : Finset ι), c.toInt ≤
        (if f i = f a then BitVec.ofNat 32 (g i) else BitVec.ofNat 32 n : BitVec 32).toInt := fun c =>
    Finset.fold_op_rel_iff_and (r := fun x y : BitVec 32 => x.toInt ≤ y.toInt)
      (fun {x y z} => by rw [SortNet.toInt_minsi]; exact le_min_iff)
  apply BitVec.eq_of_toInt_eq
  apply le_antisymm
  · have := ((key _).1 le_rfl).2 a (Finset.mem_univ _)
    rwa [if_pos rfl] at this
  · rw [key]
    have ha := hg a
    refine ⟨?_, fun i _ => ?_⟩
    · rw [toInt_ofNat_small (by omega)]
      have : (2147483647#32 : BitVec 32).toInt = 2147483647 := by decide
      omega
    · have hi := hg i
      by_cases hf : f i = f a
      · rw [if_pos hf, toInt_ofNat_small (by omega), toInt_ofNat_small (by omega)]
        exact_mod_cast hm i hf
      · rw [if_neg hf, toInt_ofNat_small (by omega), toInt_ofNat_small (by omega)]
        exact_mod_cast ha.le

/-- The same over `Fin n` with the indices themselves: the word of `firstMax`. -/
theorem fold_minsi_firstMax {n : ℕ} [NeZero n] (f : Fin n → EReal) (hn : n < 2147483648) :
    Finset.fold IntOp.minsi 2147483647#32
      (fun i : Fin n => if f i = Finset.fold max ⊥ f Finset.univ then BitVec.ofNat 32 i else BitVec.ofNat 32 n) Finset.univ
      = BitVec.ofNat 32 (firstMax f) :=
  fold_minsi_eq f (fun i => (i : ℕ)) n (firstMax f) hn (fun i => i.isLt) (firstMax_spec f).1
    fun i hi => (firstMax_spec f).2 i hi

theorem fold_max_firstMax {n : ℕ} [NeZero n] (f : Fin n → EReal) :
    Finset.fold max ⊥ f Finset.univ = f (firstMax f) := fold_max_eq f _ (firstMax_spec f).1

/-- One step of a running maximum that remembers where it was reached. -/
def argStep {n : ℕ} (f : Fin n → EReal) (s : EReal × BitVec 32) (j : Fin n) : EReal × BitVec 32 :=
  (max s.1 (f j), if s.1 < f j then BitVec.ofNat 32 j else s.2)

/-- A running maximum over an increasing list of further indices stays at the first maximum of the indices seen. -/
theorem foldl_argStep {n : ℕ} (f : Fin n → EReal) (l : List (Fin n)) (S : Finset (Fin n)) (a : Fin n) (haS : a ∈ S)
    (h : ∀ i ∈ S, f i ≤ f a) (hm : ∀ i ∈ S, f i = f a → a ≤ i) (hl : l.Pairwise (· < ·)) (hS : ∀ i ∈ S, ∀ j ∈ l, i < j) :
    ∃ b ∈ S ∪ l.toFinset, l.foldl (argStep f) (f a, BitVec.ofNat 32 a) = (f b, BitVec.ofNat 32 b)
      ∧ (∀ i ∈ S ∪ l.toFinset, f i ≤ f b) ∧ ∀ i ∈ S ∪ l.toFinset, f i = f b → b ≤ i := by
  induction l generalizing S a with
  | nil => exact ⟨a, by simpa using haS, rfl, by simpa using h, by simpa using hm⟩
  | cons x l ih =>
    have hx : ∀ i ∈ S, i < x := fun i hi => hS i hi x (by simp)
    have hsub : insert x S ∪ l.toFinset = S ∪ (x :: l).toFinset := by
      ext i; simp only [Finset.mem_union, Finset.mem_insert, List.toFinset_cons]; tauto
    have hS' : ∀ i ∈ insert x S, ∀ j ∈ l, i < j := by
      intro i hi j hj
      rcases Finset.mem_insert.1 hi with rfl | hi
      · exact (List.pairwise_cons.1 hl).1 j hj
      · exact hS i hi j (List.mem_cons_of_mem _ hj)
    rw [List.foldl_cons]
    by_cases hlt : f a < f x
    · have : argStep f (f a, BitVec.ofNat 32 a) x = (f x, BitVec.ofNat 32 x) := by
        simp [argStep, hlt, hlt.le]
      rw [this, ← hsub]
      refine ih (insert x S) x (by simp) ?_ ?_ (List.pairwise_cons.1 hl).2 hS'
      · intro i hi
        rcases Finset.mem_insert.1 hi with rfl | hi
        · exact le_rfl
        · exact (h i hi).trans hlt.le
      · intro i hi he
        rcases Finset.mem_insert.1 hi with rfl | hi
        · exact le_rfl
        · exact absurd (h i hi) (not_le.2 (he ▸ hlt))
    · have : argStep f (f a, BitVec.ofNat 32 a) x = (f a, BitVec.ofNat 32 a) := by
        simp [argStep, hlt, not_lt.1 hlt]
      rw [this, ← hsub]
      refine ih (insert x S) a (by simp [haS]) ?_ ?_ (List.pairwise_cons.1 hl).2 hS'
      · intro i hi
        rcases Finset.mem_insert.1 hi with rfl | hi
        · exact not_lt.1 hlt
        · exact h i hi
      · intro i hi he
        rcases Finset.mem_insert.1 hi with rfl | hi
        · exact (hx a haS).le
        · exact hm i hi he

/-- The indices 1 to 19, over which the running maximum goes after it has started from index 0. -/
abbrev later : List (Fin 20) := [1, 2, 3, 4, 5, 6, 7, 8, 9, 10, 11, 12, 13, 14, 15, 16, 17, 18, 19]

/-- All twenty indices in order. -/
abbrev objs : List (Fin 20) := [0, 1, 2, 3, 4, 5, 6, 7, 8, 9, 10, 11, 12, 13, 14, 15, 16, 17, 18, 19]

theorem argRun_eq (f : Fin 20 → EReal) :
    later.foldl (argStep f) (f 0, 0#32) = (f (firstMax f), BitVec.ofNat 32 (firstMax f)) := by
  obtain ⟨b, -, hb, h1, h2⟩ := foldl_argStep f later {0} 0 (by simp) (by simp) (by simp) (by decide) (by decide)
  have hall : ∀ i : Fin 20, i ∈ ({0} : Finset (Fin 20)) ∪ later.toFinset := by decide
  have : firstMax f = b := firstMax_eq ⟨fun i => h1 i (hall i), fun i hi => h2 i (hall i) hi⟩
  rw [this, ← hb]
  rfl

theorem ite_max (a b : EReal) : (if a < b then b else a) = max a b := by
  rcases lt_or_ge a b with h | h
  · rw [if_pos h, max_eq_right h.le]
  · rw [if_neg (not_lt.2 h), max_eq_left h]

/-- The last index of the list that `m` accepts picks the value; `a` where none does. -/
def lastHit {ι α : Type*} (m : ι → Prop) [DecidablePred m] (v : ι → α) (a : α) (l : List ι) : α :=
  l.foldl (fun a j => if m j then v j else a) a

theorem lastHit_map {ι α β : Type*} (m : ι → Prop) [DecidablePred m] (v : ι → α) (a : α) (l : List ι) (g : α → β) :
    g (lastHit m v a l) = lastHit m (fun j => g (v j)) (g a) l := by
  induction l generalizing a with
  | nil => rfl
  | cons j l ih =>
    show g (lastHit m v (if m j then v j else a) l) = lastHit m _ (if m j then g (v j) else g a) l
    rw [ih]; split <;> rfl

theorem lastHit_congr {ι α : Type*} (m m' : ι → Prop) [DecidablePred m] [DecidablePred m'] (v : ι → α) (a : α) (l : List ι)
    (h : ∀ j, m j ↔ m' j) : lastHit m v a l = lastHit m' v a l := by
  unfold lastHit; congr 1; funext a j; exact if_congr (h j) rfl rfl

/-- Picking by an index word among twenty, the first one where no other matches. -/
theorem pick_eq {α : Type*} (i : Fin 20) (v : Fin 20 → α) :
    lastHit (fun j : Fin 20 => BitVec.ofNat 32 i = BitVec.ofNat 32 j) v (v 0) later = v i := by
  have hinj : ∀ a b : Fin 20, (BitVec.ofNat 32 a = BitVec.ofNat 32 b) ↔ a = b := by decide
  rw [lastHit_congr _ (fun j => i = j) v _ _ (fun j => hinj i j)]
  fin_cases i <;> rfl

end Cert.Multibox
end
-- ==== Proof.Model.lean ====
module

public import proofs.«01_k».proof.Proof.First

/-! The loss of one image as plain mathematics over the extended reals: which object each prior box is matched to, the
    location loss and the cross entropy of every prior. Both the kernel and the reference are read as these functions. -/

@[expose] public section
noncomputable section
namespace Cert.Multibox
open Idealize.ShloMosaic

/-- The overlap of a box `b` with a prior `q`, both by their corners: intersection over union. -/
def iou (b q : Fin 4 → EReal) : EReal :=
  Ideal.div (max (min (b 2) (q 2) - max (b 0) (q 0)) 0 * max (min (b 3) (q 3) - max (b 1) (q 1)) 0)
    ((b 2 - b 0) * (b 3 - b 1) + (q 2 - q 0) * (q 3 - q 1)
      - max (min (b 2) (q 2) - max (b 0) (q 0)) 0 * max (min (b 3) (q 3) - max (b 1) (q 1)) 0
      + Ideal.ofBits .f32 786163455#32)

/-- The corners of a box are in order. -/
def Ordered (b : Fin 4 → EReal) : Prop := b 0 ≤ b 2 ∧ b 1 ≤ b 3

/-- What one image gives: scores, predicted offsets, boxes and labels, and the priors by corners and by centres. -/
structure Image where
  sc : Fin 8732 → Fin 21 → EReal
  pb : Fin 8732 → Fin 4 → EReal
  bx : Fin 20 → Fin 4 → EReal
  lab : Fin 20 → BitVec 32
  pxy : Fin 8732 → Fin 4 → EReal
  pc : Fin 8732 → Fin 4 → EReal

/-- One half, five, and the floor under a width, as the programs write them. -/
def half : EReal := Ideal.ofBits .f32 1056964608#32
def five : EReal := Ideal.ofBits .f32 1084227584#32
def tiny : EReal := Ideal.ofBits .f32 841731191#32

/-- The offset of box `b` from the prior with centre and size `q`, coordinate `c`. -/
def target (b q : Fin 4 → EReal) (c : Fin 4) : EReal :=
  if c = 0 then Ideal.div ((b 0 + b 2) * half - q 0) (q 2 * ((1 / 10 : ℝ) : EReal))
  else if c = 1 then Ideal.div ((b 1 + b 3) * half - q 1) (q 3 * ((1 / 10 : ℝ) : EReal))
  else if c = 2 then Ideal.log (Ideal.div (max (b 2 - b 0) tiny) (max (q 2) tiny)) * five
  else Ideal.log (Ideal.div (max (b 3 - b 1) tiny) (max (q 3) tiny)) * five

/-- The smooth absolute value of the loss on locations. -/
def smooth (d : EReal) : EReal := if max d (-d) < 1 then half * d * d else max d (-d) - half

/-- The largest of the scores of a prior. -/
def top (v : Fin 21 → EReal) : EReal := Finset.fold max ⊥ v Finset.univ

/-- The logarithm of the sum of the exponentials of the scores. -/
def lse (v : Fin 21 → EReal) : EReal := top v + Ideal.log (∑ k, Ideal.exp (v k - top v))

/-- The score of the class that the word `c` names. -/
def pick (v : Fin 21 → EReal) (c : BitVec 32) : EReal := ∑ k : Fin 21, if c = BitVec.ofNat 32 k then v k else 0

namespace Image
variable (I : Image)

def ov (j : Fin 20) (p : Fin 8732) : EReal := iou (I.bx j) (I.pxy p)

/-- The prior that object `j` takes. -/
def own (j : Fin 20) : Fin 8732 := firstMax (I.ov j)

/-- The object of prior `p`: the last that takes `p` for itself, otherwise the first with the largest overlap. -/
def obj (p : Fin 8732) : Fin 20 := lastHit (fun j => I.own j = p) id (firstMax fun j => I.ov j p) objs

/-- The overlap with it, 1 where an object takes the prior for itself. -/
def best (p : Fin 8732) : EReal := lastHit (fun j => I.own j = p) (fun _ => 1) (I.ov (firstMax fun j => I.ov j p) p) objs

/-- The class of prior `p`, 0 (background) where the overlap is below one half. -/
def cls (p : Fin 8732) : BitVec 32 := if I.best p < half then 0#32 else I.lab (I.obj p)

/-- 1 at a prior that is not background. -/
def pos (p : Fin 8732) : EReal := if I.cls p = 0#32 then 0 else 1

def loc (p : Fin 8732) (c : Fin 4) : EReal := smooth (I.pb p c - target (I.bx (I.obj p)) (I.pc p) c) * I.pos p

/-- The cross entropy of prior `p`. -/
def ce (p : Fin 8732) : EReal := lse (I.sc p) - pick (I.sc p) (I.cls p)

/-- The cross entropy of a background prior, 0 at the others. -/
def neg (p : Fin 8732) : EReal := if I.cls p = 0#32 then I.ce p else 0

/-- The three sums of an image: the number of priors that are not background, and their two losses. -/
def sums (e : Fin 8) : EReal :=
  if e = 0 then ∑ p, I.pos p else if e = 1 then ∑ p, ∑ c, I.loc p c else if e = 2 then ∑ p, I.ce p * I.pos p else 0

/-- The boxes and the priors have their corners in order, the scores are finite and the labels are classes. -/
structure Ok : Prop where
  bx : ∀ j, Ordered (I.bx j)
  pxy : ∀ p, Ordered (I.pxy p)
  sc : ∀ p k, I.sc p k ≠ ⊤ ∧ I.sc p k ≠ ⊥
  lab : ∀ j, ∃ k : Fin 21, I.lab j = BitVec.ofNat 32 k

end Image

/-- The flat place of a position of an 8 by 1092 block. -/
def place (x : Fin 8 × Fin 1092) : ℕ := x.1 * 1092 + x.2

theorem place_lt (x : Fin 8 × Fin 1092) : place x < 8736 := by
  have h1 := x.1.isLt; have h2 := x.2.isLt; unfold place; omega

/-- The position of a flat place. -/
def spot (p : ℕ) (h : p < 8736) : Fin 8 × Fin 1092 := (⟨p / 1092, by omega⟩, ⟨p % 1092, Nat.mod_lt _ (by norm_num)⟩)

theorem place_spot (p : ℕ) (h : p < 8736) : place (spot p h) = p := by
  simp only [place, spot]; omega

theorem place_inj {x y : Fin 8 × Fin 1092} (h : place x = place y) : x = y := by
  have h1 := x.2.isLt; have h2 := y.2.isLt
  unfold place at h
  refine Prod.ext (Fin.ext ?_) (Fin.ext ?_) <;> omega

/-- A sum over the positions of a block is the sum over the priors, when the four positions beyond them hold 0. -/
theorem sum_place (F : Fin 8 → Fin 1092 → EReal) (G : Fin 8732 → EReal)
    (h : ∀ s l (hp : place (s, l) < 8732), F s l = G ⟨place (s, l), hp⟩) (h0 : ∀ s l, ¬ place (s, l) < 8732 → F s l = 0) :
    ∑ s, ∑ l, F s l = ∑ p, G p := by
  rw [← Finset.sum_product' Finset.univ Finset.univ F, Finset.univ_product_univ]
  symm
  refine Finset.sum_of_injOn (fun p : Fin 8732 => spot p (by omega)) ?_ (by simp) ?_ ?_
  · intro p _ q _ hpq
    have := congrArg place hpq
    simp only [place_spot] at this
    exact Fin.ext this
  · rintro ⟨s, l⟩ - hx
    refine h0 s l fun hp => hx ?_
    refine ⟨⟨place (s, l), hp⟩, by simp, place_inj ?_⟩
    simp only [place_spot]
  · intro p _
    have hp := place_spot p (by omega)
    have hl : place ((spot p (by omega)).1, (spot p (by omega)).2) < 8732 := lt_of_eq_of_lt hp p.isLt
    rw [h _ _ hl]
    congr 1
    exact Fin.ext hp.symm

/-! ## The overlap is never negative, and a prior that is a point at the origin has none -/

theorem eps_pos : (0 : EReal) < Ideal.ofBits .f32 786163455#32 := by
  simp [Ideal.ofBits, Ideal.ieee, -EReal.coe_mul]

theorem eps_ne_top : Ideal.ofBits .f32 786163455#32 ≠ ⊤ := by
  simp [Ideal.ofBits, Ideal.ieee, -EReal.coe_mul]

/-- Bottom, or not negative. -/
def Weak (x : EReal) : Prop := x = ⊥ ∨ 0 ≤ x

theorem weak_sub {a b : EReal} (h : a ≤ b) : Weak (b - a) := by
  by_cases ha : a = ⊤
  · subst ha; exact Or.inl (by rw [sub_eq_add_neg, EReal.neg_top, EReal.add_bot])
  by_cases hb : b = ⊥
  · subst hb; exact Or.inl (by rw [sub_eq_add_neg, EReal.bot_add])
  exact Or.inr ((EReal.sub_nonneg (Or.inr ha) (Or.inl hb)).2 h)

theorem weak_mul {x y : EReal} (hx : Weak x) (hy : Weak y) : Weak (x * y) := by
  rcases hx with rfl | hx <;> rcases hy with rfl | hy
  · exact Or.inr (by simp)
  · rcases hy.eq_or_lt with rfl | hy
    · exact Or.inr (by simp)
    · exact Or.inl (EReal.bot_mul_of_pos hy)
  · rcases hx.eq_or_lt with rfl | hx
    · exact Or.inr (by simp)
    · exact Or.inl (EReal.mul_bot_of_pos hx)
  · exact Or.inr (mul_nonneg hx hy)

theorem weak_add {x y : EReal} (hx : Weak x) (hy : Weak y) : Weak (x + y) := by
  rcases hx with rfl | hx
  · exact Or.inl (EReal.bot_add _)
  rcases hy with rfl | hy
  · exact Or.inl (EReal.add_bot _)
  exact Or.inr (add_nonneg hx hy)

theorem weak_eps {x : EReal} (hx : Weak x) : x + Ideal.ofBits .f32 786163455#32 ≠ 0 := by
  rcases hx with rfl | hx
  · rw [EReal.bot_add]; exact EReal.bot_ne_zero
  · exact (eps_pos.trans_le (le_add_of_nonneg_left hx)).ne'

/-- Two boxes with ordered corners whose intersection has no area have overlap 0. -/
theorem div_none {A B : EReal} (hA : Weak A) (hB : Weak B) :
    Ideal.div 0 (A + B - 0 + Ideal.ofBits .f32 786163455#32) = 0 := by
  unfold Ideal.div
  rw [sub_zero, if_neg (weak_eps (weak_add hA hB)), zero_mul]

theorem iou_nonneg {b q : Fin 4 → EReal} (hb : Ordered b) (hq : Ordered q) : 0 ≤ iou b q := by
  have hA := weak_mul (weak_sub hb.1) (weak_sub hb.2)
  have hB := weak_mul (weak_sub hq.1) (weak_sub hq.2)
  have w1 : min (b 2) (q 2) - max (b 0) (q 0) ≤ b 2 - b 0 := EReal.sub_le_sub (min_le_left _ _) (le_max_left _ _)
  have w2 : min (b 2) (q 2) - max (b 0) (q 0) ≤ q 2 - q 0 := EReal.sub_le_sub (min_le_right _ _) (le_max_right _ _)
  have h1 : min (b 3) (q 3) - max (b 1) (q 1) ≤ b 3 - b 1 := EReal.sub_le_sub (min_le_left _ _) (le_max_left _ _)
  have h2 : min (b 3) (q 3) - max (b 1) (q 1) ≤ q 3 - q 1 := EReal.sub_le_sub (min_le_right _ _) (le_max_right _ _)
  unfold iou
  generalize min (b 2) (q 2) - max (b 0) (q 0) = w at *
  generalize min (b 3) (q 3) - max (b 1) (q 1) = h at *
  by_cases hw : w ≤ 0
  · rw [max_eq_right hw, zero_mul, div_none hA hB]
  by_cases hh : h ≤ 0
  · rw [max_eq_right hh, mul_zero, div_none hA hB]
  have hw := lt_of_not_ge hw
  have hh := lt_of_not_ge hh
  rw [max_eq_left hw.le, max_eq_left hh.le]
  have hI : 0 < w * h := EReal.mul_pos hw hh
  have hIA : w * h ≤ (b 2 - b 0) * (b 3 - b 1) := mul_le_mul w1 h1 hh.le (hw.le.trans w1)
  have hIB : 0 ≤ (q 2 - q 0) * (q 3 - q 1) := mul_nonneg (hw.le.trans w2) (hh.le.trans h2)
  generalize w * h = t at *
  by_cases ht : t = ⊤
  · subst ht
    rw [sub_eq_add_neg, EReal.neg_top, EReal.add_bot, EReal.bot_add]
    unfold Ideal.div
    rw [if_neg EReal.bot_ne_zero]
    simp
  · have hd : 0 ≤ (b 2 - b 0) * (b 3 - b 1) + (q 2 - q 0) * (q 3 - q 1) - t :=
      (EReal.sub_nonneg (Or.inr ht) (Or.inr hI.ne_bot)).2 (le_add_of_le_of_nonneg hIA hIB)
    unfold Ideal.div
    rw [if_neg (weak_eps (Or.inr hd))]
    exact mul_nonneg hI.le (EReal.inv_nonneg_of_nonneg (add_nonneg hd eps_pos.le))

theorem iou_origin {b q : Fin 4 → EReal} (hb : Ordered b) (hq : ∀ c, q c = 0) : iou b q = 0 := by
  have hA := weak_mul (weak_sub hb.1) (weak_sub hb.2)
  have hw : min (b 2) 0 - max (b 0) 0 ≤ 0 := by
    calc min (b 2) 0 - max (b 0) 0 ≤ (0 : EReal) - 0 := EReal.sub_le_sub (min_le_right _ _) (le_max_right _ _)
      _ = 0 := by simp
  unfold iou
  simp only [hq]
  rw [max_eq_right hw, zero_mul]
  exact div_none hA (Or.inr (by simp))

end Cert.Multibox
end
-- ==== Proof.Entry.lean ====
module

public import proofs.«01_k».proof.Proof.Gen.LossIdeal.Value
public import Idealize.ShloMosaic.Lib.Claim
public import Idealize.ShloMosaic.Lib.KernelVsHost
public import proofs.«01_k».proof.Proof.Model

/-!
The arrays that the launch reads, each as the host operations before it make it from an argument of the kernel.
-/

@[expose] public section
set_option maxRecDepth 16384
noncomputable section
namespace Cert.Multibox
open Idealize.ShloMosaic Idealize.ShloMosaic.TcCoe Cert.LossIdeal Cert.LossIdeal.Gen

variable (m : (ℓ : Loc nD τ sig) → Buf (Elt Ideal) ℓ) (c : Dev nD)

/-- The scores: the classes first, padded to 8736 priors, cut into eight rows. -/
theorem entry_scores : V m c main_v3 =
    shapeCast S32x21x8x1092 (pad S32x21x8736 ![0, 0, 0] ![0, 0, 4] ![0, 0, 0]
      (transpose S32x21x8732 [0, 2, 1] (truncf (F := Ideal) .bf16 (m ((c : Thread nD τ).loc main_arg1)) bitsLt_bf16_f32)
        transposes_S32x8732x21_S32x21x8732_0_2_1)
      (sitofp (F := Ideal) .bf16 (constantI S_ 32 0#32)) pads_S32x21x8732_S32x21x8736_000_000_040 h_S_)
      shapeCasts_S32x21x8736_S32x21x8x1092 := by
  simp only [V, hostOps0, hostOps0_1, hostOps0_2, hostOps0_3, hostOps0_4, List.flatten_cons, List.flatten_nil,
    List.append_nil, List.cons_append, List.nil_append, StableHlo.after_cons, StableHlo.after_nil]
  after_results_loop
  rfl

/-- The predicted offsets, likewise. -/
theorem entry_offsets : V m c main_v7 =
    shapeCast S32x4x8x1092 (pad S32x4x8736 ![0, 0, 0] ![0, 0, 4] ![0, 0, 0]
      (transpose S32x4x8732 [0, 2, 1] (truncf (F := Ideal) .bf16 (m ((c : Thread nD τ).loc main_arg0)) bitsLt_bf16_f32)
        transposes_S32x8732x4_S32x4x8732_0_2_1)
      (sitofp (F := Ideal) .bf16 (constantI S_ 32 0#32)) pads_S32x4x8732_S32x4x8736_000_000_040 h_S_)
      shapeCasts_S32x4x8736_S32x4x8x1092 := by
  simp only [V, hostOps0, hostOps0_1, hostOps0_2, hostOps0_3, hostOps0_4, List.flatten_cons, List.flatten_nil,
    List.append_nil, List.cons_append, List.nil_append, StableHlo.after_cons, StableHlo.after_nil]
  after_results_loop
  rfl

/-- The labels, with an axis of one in the middle. -/
theorem entry_labels : V m c main_v8 =
    shapeCast S32x1x20 (m ((c : Thread nD τ).loc main_arg3)) shapeCasts_S32x20_S32x1x20 := by
  simp only [V, hostOps0, hostOps0_1, hostOps0_2, hostOps0_3, hostOps0_4, List.flatten_cons, List.flatten_nil,
    List.append_nil, List.cons_append, List.nil_append, StableHlo.after_cons, StableHlo.after_nil]
  after_results_loop
  rfl

theorem zero_corner : ∀ n : Fin 32, n.val % 8 < 4 → lit0 n = 0#32 := by decide

/-- The priors: both forms side by side, four rows of padding, the coordinates first, cut into eight rows. -/
theorem entry_priors : ∃ z : Vec Ideal S4x8 .f32, (∀ (i : Fin 4) (j : Fin 8), j.val < 4 → z (ix2 i j) = (0 : EReal)) ∧
    V m c main_v12 =
      shapeCast S8x8x1092 (transpose S8x8736 [1, 0]
        (concatenate S8736x8 0 [⟨S8732x8, concatenate S8732x8 1
            [⟨S8732x4, m ((c : Thread nD τ).loc main_arg4)⟩, ⟨S8732x4, m ((c : Thread nD τ).loc main_arg5)⟩]
            concatenates_S8732x4_S8732x4_S8732x8_d1⟩, ⟨S4x8, z⟩] concatenates_S8732x8_S4x8_S8736x8_d0)
        transposes_S8736x8_S8x8736_1_0) shapeCasts_S8x8736_S8x8x1092 := by
  simp only [V, hostOps0, hostOps0_1, hostOps0_2, hostOps0_3, hostOps0_4, List.flatten_cons, List.flatten_nil,
    List.append_nil, List.cons_append, List.nil_append, StableHlo.after_cons, StableHlo.after_nil]
  after_results_loop
  refine ⟨_, ?_, rfl⟩
  intro i j hj
  show Ideal.ofBits .f32 (lit0 (S4x8.rowMajor (ix2 i j))) = 0
  rw [zero_corner (S4x8.rowMajor (ix2 i j)) (by
    have h := Shape.rowMajor_val_two (d := ![4, 8]) (ix2 i j : (⟨2, ![4, 8]⟩ : Shape).Idx)
    have h' : (S4x8.rowMajor (ix2 i j)).val = i.val * 8 + j.val := h
    rw [h']; omega)]
  exact Ideal.ofBits_zero .f32

variable (t : Fin 32) (s : Fin 8) (l : Fin 1092)

theorem scores_at (hp : place (s, l) < 8732) (k : Fin 21) :
    (V m c main_v3 (ix4 t k s l) : EReal) = m ((c : Thread nD τ).loc main_arg1) (ix3 t ⟨place (s, l), hp⟩ k) := by
  rw [entry_scores]
  refine (shapeCast_apply _ _ _ (ix3 t k ⟨place (s, l), place_lt _⟩ : S32x21x8736.Idx) ?_).trans ?_
  · refine (Shape.rowMajor_val_three (d := ![32, 21, 8736]) _).trans (Eq.trans ?_ (Shape.rowMajor_val_four (d := ![32, 21, 8, 1092]) _).symm)
    show (t.val * 21 + k.val) * 8736 + (s.val * 1092 + l.val) = ((t.val * 21 + k.val) * 8 + s.val) * 1092 + l.val
    omega
  · refine (pad_apply_of_inside _ _ _ _ _ _ _ _ (ix3 t k ⟨place (s, l), hp⟩ : S32x21x8732.Idx) ?_).trans ?_
    · intro a
      match a with
      | ⟨0, _⟩ => show t.val = 0 + t.val * 1; omega
      | ⟨1, _⟩ => show k.val = 0 + k.val * 1; omega
      | ⟨2, _⟩ => show place (s, l) = 0 + place (s, l) * 1; omega
    · pointwise

theorem offsets_at (hp : place (s, l) < 8732) (k : Fin 4) :
    (V m c main_v7 (ix4 t k s l) : EReal) = m ((c : Thread nD τ).loc main_arg0) (ix3 t ⟨place (s, l), hp⟩ k) := by
  rw [entry_offsets]
  refine (shapeCast_apply _ _ _ (ix3 t k ⟨place (s, l), place_lt _⟩ : S32x4x8736.Idx) ?_).trans ?_
  · refine (Shape.rowMajor_val_three (d := ![32, 4, 8736]) _).trans (Eq.trans ?_ (Shape.rowMajor_val_four (d := ![32, 4, 8, 1092]) _).symm)
    show (t.val * 4 + k.val) * 8736 + (s.val * 1092 + l.val) = ((t.val * 4 + k.val) * 8 + s.val) * 1092 + l.val
    omega
  · refine (pad_apply_of_inside _ _ _ _ _ _ _ _ (ix3 t k ⟨place (s, l), hp⟩ : S32x4x8732.Idx) ?_).trans ?_
    · intro a
      match a with
      | ⟨0, _⟩ => show t.val = 0 + t.val * 1; omega
      | ⟨1, _⟩ => show k.val = 0 + k.val * 1; omega
      | ⟨2, _⟩ => show place (s, l) = 0 + place (s, l) * 1; omega
    · pointwise

theorem labels_at (j : Fin 20) :
    V m c main_v8 (ix3 t 0 j) = m ((c : Thread nD τ).loc main_arg3) (ix2 t j) := by
  rw [entry_labels]
  pointwise

/-- The rows of the table of priors, before the cut. -/
theorem priors_cut (z : Vec Ideal S8736x8 .f32) (k : Fin 8) :
    shapeCast S8x8x1092 (transpose S8x8736 [1, 0] z transposes_S8736x8_S8x8736_1_0) shapeCasts_S8x8736_S8x8x1092
      (ix3 k s l) = z (ix2 ⟨place (s, l), place_lt _⟩ k) := by
  refine (shapeCast_apply _ _ _ (ix2 k ⟨place (s, l), place_lt _⟩ : S8x8736.Idx) ?_).trans ?_
  · refine (Shape.rowMajor_val_two (d := ![8, 8736]) _).trans (Eq.trans ?_ (Shape.rowMajor_val_three (d := ![8, 8, 1092]) _).symm)
    show k.val * 8736 + (s.val * 1092 + l.val) = (k.val * 8 + s.val) * 1092 + l.val
    omega
  · pointwise

theorem pxy_at (hp : place (s, l) < 8732) (k : Fin 4) :
    (V m c main_v12 (ix3 ⟨k, by omega⟩ s l) : EReal) = m ((c : Thread nD τ).loc main_arg4) (ix2 ⟨place (s, l), hp⟩ k) := by
  obtain ⟨z, -, e⟩ := entry_priors m c
  rw [e, priors_cut]
  refine (concatenate_pair_apply_left (t := S8736x8) (s₁ := S8732x8) (s₂ := S4x8) 0 _ _ _ _ rfl (ix2 ⟨place (s, l), hp⟩ ⟨k, by omega⟩ : S8732x8.Idx) ?_).trans ?_
  · intro b
    match b with
    | ⟨0, _⟩ => rfl
    | ⟨1, _⟩ => rfl
  · refine concatenate_pair_apply_left (t := S8732x8) (s₁ := S8732x4) (s₂ := S8732x4) 1 _ _ _ _ rfl (ix2 ⟨place (s, l), hp⟩ k : S8732x4.Idx) ?_
    intro b
    match b with
    | ⟨0, _⟩ => rfl
    | ⟨1, _⟩ => rfl

theorem pc_at (hp : place (s, l) < 8732) (k : Fin 4) :
    (V m c main_v12 (ix3 ⟨k + 4, by omega⟩ s l) : EReal) = m ((c : Thread nD τ).loc main_arg5) (ix2 ⟨place (s, l), hp⟩ k) := by
  obtain ⟨z, -, e⟩ := entry_priors m c
  rw [e, priors_cut]
  refine (concatenate_pair_apply_left (t := S8736x8) (s₁ := S8732x8) (s₂ := S4x8) 0 _ _ _ _ rfl (ix2 ⟨place (s, l), hp⟩ ⟨k + 4, by omega⟩ : S8732x8.Idx) ?_).trans ?_
  · intro b
    match b with
    | ⟨0, _⟩ => rfl
    | ⟨1, _⟩ => rfl
  · refine concatenate_pair_apply_right (t := S8732x8) (s₁ := S8732x4) (s₂ := S8732x4) 1 _ _ _ _ rfl rfl (ix2 ⟨place (s, l), hp⟩ k : S8732x4.Idx) ?_ ?_
    · intro b hb
      match b with
      | ⟨0, _⟩ => rfl
      | ⟨1, _⟩ => exact absurd rfl hb
    · rfl

theorem pxy_pad (hp : ¬ place (s, l) < 8732) (k : Fin 4) : @Eq EReal (V m c main_v12 (ix3 ⟨k, by omega⟩ s l)) 0 := by
  obtain ⟨z, hz, e⟩ := entry_priors m c
  have h := place_lt (s, l)
  obtain ⟨q, hq⟩ : ∃ q, place (s, l) = q + 8732 := ⟨place (s, l) - 8732, by omega⟩
  rw [e, priors_cut]
  refine (concatenate_pair_apply_right (t := S8736x8) (s₁ := S8732x8) (s₂ := S4x8) 0 _ _ _ _ rfl rfl (ix2 ⟨q, by omega⟩ ⟨k, by omega⟩ : S4x8.Idx) ?_ ?_).trans
    (hz _ _ k.isLt)
  · intro b hb
    match b with
    | ⟨0, _⟩ => exact absurd rfl hb
    | ⟨1, _⟩ => rfl
  · exact hq.symm

end Cert.Multibox
-- ==== Proof.KerMatch.lean ====
module

public import proofs.«01_k».proof.Proof.Gen.LossIdeal.Frame
public import proofs.«01_k».proof.Proof.First

/-! The kernel's matching of prior boxes to objects, read at one position `(s, l)` of a block of priors: which object a prior
    takes and how much it overlaps with it, and which priors are forced. -/

@[expose] public section
set_option maxRecDepth 16384
noncomputable section
namespace Cert.Multibox
open Idealize.ShloMosaic Cert.LossIdeal Cert.LossIdeal.Gen

/-- An equation through a name for its right-hand side. -/
theorem via {α : Sort*} {a b : α} (h : ∀ R, b = R → a = R) : a = b := h b rfl

theorem select_eq {α : Type} (c : BitVec 1) (a b : α) : Scalar.select c a b = if c = 1#1 then a else b := rfl

/-! ## The running maximum, eight objects at a time -/

variable (v63 v74 v75 v77 : FVec Ideal S20x8x1092 .f32) (v126 v174 v221 : FVec Ideal S8x1092 .f32) (v122 v176 v225 v30 : IVec S8x1092 32)
  (v125 v223 : IVec S8x1092 1) (v209 : IVec S20x8x1092 1) (i : BitVec 32) (s : Fin 8) (l : Fin 1092)

theorem max8 :
    k0_pay49 v63 v74 v75 (ix2 s l) = ([1, 2, 3, 4, 5, 6, 7, 8].foldl (argStep fun j : Fin 20 => k0_pay23 v63 v74 v75 (ix3 j s l)) (k0_pay23 v63 v74 v75 (ix3 0 s l), 0#32)).1 := by
  refine via fun R hR => ?_
  simp only [lastHit, List.foldl_cons, List.foldl_nil, argStep] at hR
  pointwise [k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, ite_max]
  exact hR

theorem arg8 :
    Scalar.select (k0_pay48 v63 v74 v75 (ix2 s l)) 8#32 (k0_pay46 v63 v74 v75 (ix2 s l)) = ([1, 2, 3, 4, 5, 6, 7, 8].foldl (argStep fun j : Fin 20 => k0_pay23 v63 v74 v75 (ix3 j s l)) (k0_pay23 v63 v74 v75 (ix3 0 s l), 0#32)).2 := by
  refine via fun R hR => ?_
  simp only [lastHit, List.foldl_cons, List.foldl_nil, argStep] at hR
  pointwise [k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, ite_max]
  exact hR

theorem max16 :
    k0_pay73 v77 v126 (ix2 s l) = ([9, 10, 11, 12, 13, 14, 15, 16].foldl (argStep fun j : Fin 20 => v77 (ix3 j s l)) (v126 (ix2 s l), i)).1 := by
  refine via fun R hR => ?_
  simp only [lastHit, List.foldl_cons, List.foldl_nil, argStep] at hR
  pointwise [k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, ite_max]
  exact hR

theorem arg16 :
    k0_pay74 v77 v122 v125 v126 8#32 (ix2 s l) = ([9, 10, 11, 12, 13, 14, 15, 16].foldl (argStep fun j : Fin 20 => v77 (ix3 j s l)) (v126 (ix2 s l), if v125 (ix2 s l) = 1#1 then 8#32 else v122 (ix2 s l))).2 := by
  refine via fun R hR => ?_
  simp only [lastHit, List.foldl_cons, List.foldl_nil, argStep] at hR
  pointwise [k0_pay74, k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, ite_max]
  simp only [select_eq]
  exact hR

/-! ## The last three objects, and the forced priors -/

theorem best3 :
    k0_pay86 v30 v77 v174 (k0_pay75 v77) (ix2 s l) = (if k0_pay85 v30 v77 (ix2 s l) = 1#1 then (1 : EReal) else if k0_pay84 v30 v77 (ix2 s l) = 1#1 then 1 else ([17, 18, 19].foldl (argStep fun j : Fin 20 => v77 (ix3 j s l)) (v174 (ix2 s l), i)).1) := by
  refine via fun R hR => ?_
  simp only [lastHit, List.foldl_cons, List.foldl_nil, argStep] at hR
  pointwise [k0_pay86, k0_pay82, k0_pay81, k0_pay80, k0_pay79, k0_pay78, k0_pay77, k0_pay76, k0_pay75, ite_max]
  simp only [select_eq]
  exact hR

theorem idx3 :
    k0_pay88 v30 v77 v174 v176 (k0_pay75 v77) (ix2 s l) = (if k0_pay87 v30 v77 (ix2 s l) = 1#1 then 2#32 else if k0_pay85 v30 v77 (ix2 s l) = 1#1 then 1#32 else if k0_pay84 v30 v77 (ix2 s l) = 1#1 then 0#32
      else ([17, 18, 19].foldl (argStep fun j : Fin 20 => v77 (ix3 j s l)) (v174 (ix2 s l), v176 (ix2 s l))).2) := by
  refine via fun R hR => ?_
  simp only [lastHit, List.foldl_cons, List.foldl_nil, argStep] at hR
  pointwise [k0_pay88, k0_pay82, k0_pay81, k0_pay80, k0_pay79, k0_pay78, k0_pay77, k0_pay76, k0_pay75, ite_max]
  simp only [select_eq]
  exact hR

theorem best_rest :
    k0_pay113 v209 (k0_pay106 v209 (k0_pay98 v209 v221 v223 (k0_pay89 (F := Ideal))) (k0_pay99 v209)) (k0_pay107 v209) (k0_pay109 (F := Ideal)) (ix2 s l)
      = lastHit (fun j : Fin 20 => v209 (ix3 j s l) = 1#1) (fun _ : Fin 20 => (1 : EReal)) (if v223 (ix2 s l) = 1#1 then 1 else v221 (ix2 s l)) [3, 4, 5, 6, 7, 8, 9, 10, 11, 12, 13, 14, 15, 16, 17, 18, 19] := by
  refine via fun R hR => ?_
  simp only [lastHit, List.foldl_cons, List.foldl_nil, argStep] at hR
  pointwise [k0_pay113, k0_pay112, k0_pay111, k0_pay110, k0_pay109, k0_pay108, k0_pay107, k0_pay106, k0_pay105, k0_pay104, k0_pay103, k0_pay102, k0_pay101, k0_pay100, k0_pay99, k0_pay98, k0_pay97, k0_pay96, k0_pay95, k0_pay94, k0_pay93, k0_pay92, k0_pay91, k0_pay90, k0_pay89, ite_max]
  simp only [select_eq]
  exact hR

theorem idx_rest :
    k0_pay112 v209 (k0_pay108 v209 (k0_pay97 v209 v225) (k0_pay99 v209) 10#32) (ix2 s l)
      = lastHit (fun j : Fin 20 => v209 (ix3 j s l) = 1#1) (fun j : Fin 20 => BitVec.ofNat 32 j) (v225 (ix2 s l)) [3, 4, 5, 6, 7, 8, 9, 10, 11, 12, 13, 14, 15, 16, 17, 18, 19] := by
  refine via fun R hR => ?_
  simp only [lastHit, List.foldl_cons, List.foldl_nil, argStep] at hR
  pointwise [k0_pay112, k0_pay111, k0_pay110, k0_pay108, k0_pay107, k0_pay105, k0_pay104, k0_pay103, k0_pay102, k0_pay101, k0_pay100, k0_pay99, k0_pay97, k0_pay96, k0_pay95, k0_pay94, k0_pay93, k0_pay92, k0_pay91, k0_pay90, ite_max]
  simp only [select_eq]
  exact hR

theorem mask0 : k0_pay84 v30 v77 (ix2 s l) = k0_pay83 v30 v77 (ix3 0 s l) := by
  pointwise [k0_pay84]

theorem mask1 : k0_pay85 v30 v77 (ix2 s l) = k0_pay83 v30 v77 (ix3 1 s l) := by
  pointwise [k0_pay85]

theorem mask2 : k0_pay87 v30 v77 (ix2 s l) = k0_pay83 v30 v77 (ix3 2 s l) := by
  pointwise [k0_pay87]

end Cert.Multibox
end
-- ==== Proof.KerOver.lean ====
module

public import proofs.«01_k».proof.Proof.Model
public import proofs.«01_k».proof.Proof.KerMatch

/-! The kernel's matching at one position in whole: the overlaps from the blocks of boxes and priors, the object with the
    largest one, and the objects' own choices of a prior, which override it. -/

@[expose] public section
set_option maxRecDepth 16384
noncomputable section
namespace Cert.Multibox
open Idealize.ShloMosaic Cert.LossIdeal Cert.LossIdeal.Gen

variable (x0 : Vec Ideal S1x21x8x1092 .bf16) (x1 : Vec Ideal S1x4x8x1092 .bf16) (x2 : Vec Ideal S1x20x4 .f32)
  (x3 : Vec Ideal S1x1x20 .i32) (x4 : Vec Ideal S8x8x1092 .f32) (s : Fin 8) (l : Fin 1092)

theorem gid_read : k0_pay14 (ix2 s l) = BitVec.ofNat 32 (s * 1092 + l) := by
  have h : k0_pay14 (ix2 s l) = IntOp.addi (IntOp.muli (BitVec.ofNat 32 s) 1092#32) (BitVec.ofNat 32 l) := by
    pointwise [k0_pay14]
  rw [h]
  apply BitVec.eq_of_toNat_eq
  have hs := s.isLt; have hl := l.isLt
  simp only [IntOp.addi, IntOp.muli, BitVec.toNat_add, BitVec.toNat_mul, BitVec.toNat_ofNat]
  omega

theorem slt_small (n : ℕ) (hn : n < 8736) : IntOp.cmpi .slt (BitVec.ofNat 32 n) 8732#32 = BitVec.ofBool (decide (n < 8732)) := by
  have h1 := toInt_ofNat_small (n := n) (by omega)
  have h2 : (8732#32 : BitVec 32).toInt = 8732 := by decide
  have : (BitVec.ofNat 32 n).slt 8732#32 = decide (n < 8732) := by
    unfold BitVec.slt
    rw [h1, h2, decide_eq_decide]
    omega
  unfold IntOp.cmpi
  simp only [this]

theorem valid_read : k0_pay15 (ix2 s l) = BitVec.ofBool (decide ((s : ℕ) * 1092 + l < 8732)) := by
  have h : k0_pay15 (ix2 s l) = IntOp.cmpi .slt (k0_pay14 (ix2 s l)) 8732#32 := by
    pointwise [k0_pay15]
  have hs := s.isLt; have hl := l.isLt
  rw [h, gid_read, slt_small _ (by omega)]

theorem negInf : Ideal.ofBits .f32 4286578688#32 = ⊥ := by simp [Ideal.ofBits, Ideal.ieee]

/-- The prior that object `j` takes for itself is the first one, by place, with the largest overlap. -/
theorem force_read (v : FVec Ideal S20x8x1092 .f32) (j : Fin 20) (a : Fin 8 × Fin 1092)
    (ha : ∀ x : Fin 8 × Fin 1092, v (ix3 j x.1 x.2) ≤ v (ix3 j a.1 a.2))
    (hm : ∀ x : Fin 8 × Fin 1092, v (ix3 j x.1 x.2) = v (ix3 j a.1 a.2) → place a ≤ place x) :
    k0_pay83 k0_pay14 v (ix3 j s l) = 1#1 ↔ place (s, l) = place a := by
  have h : k0_pay83 k0_pay14 v (ix3 j s l) = IntOp.cmpi .eq (k0_pay14 (ix2 s l))
      (Finset.fold IntOp.minsi (2147483647#32)
        (fun x : Fin 8 × Fin 1092 => if v (ix3 j x.1 x.2) =
                Finset.fold max (Ideal.ofBits FTy.f32 4286578688#32) (fun x : Fin 8 × Fin 1092 => v (ix3 j x.1 x.2)) Finset.univ
          then k0_pay14 (ix2 x.1 x.2) else 8736#32) Finset.univ) := by
    pointwise [k0_pay83]
  have hf := fold_minsi_eq (fun x : Fin 8 × Fin 1092 => v (ix3 j x.1 x.2)) place 8736 a (by norm_num) place_lt ha hm
  have hg : ∀ x : Fin 8 × Fin 1092, k0_pay14 (ix2 x.1 x.2) = BitVec.ofNat 32 (place x) := fun x => gid_read x.1 x.2
  rw [h, negInf]
  simp only [hg]
  rw [hf, gid_read]
  show BitVec.ofBool _ = 1#1 ↔ _
  have e1 := place_lt a; have e2 := place_lt (s, l)
  have : ∀ b : Bool, BitVec.ofBool b = 1#1 ↔ b = true := by decide
  rw [this, beq_iff_eq]
  show BitVec.ofNat 32 (place (s, l)) = _ ↔ _
  constructor
  · intro he
    have := congrArg BitVec.toNat he
    simp only [BitVec.toNat_ofNat] at this
    omega
  · intro he; rw [he]

theorem over_read (j : Fin 20) :
    k0_pay215 x0 x1 x2 x3 x4 (ix3 j s l) = iou (fun c => x2 (ix3 0 j c)) (fun c => x4 (ix3 ⟨c, by omega⟩ s l)) := by
  unfold k0_pay215 k0_pay212 k0_pay213 k0_pay214 k0_pay200 k0_pay202 k0_pay203 k0_pay204 k0_pay205
  pointwise [k0_pay23, k0_pay22, k0_pay21, k0_pay20, k0_pay19, k0_pay18, k0_pay17, k0_pay16, k0_pay4, k0_pay6, k0_pay7, k0_pay8, k0_pay9]
  rfl

theorem force_fold : k0_pay83 (k0_pay210 x0 x1 x2 x3 x4) (k0_pay215 x0 x1 x2 x3 x4) = k0_pay219 x0 x1 x2 x3 x4 := rfl

/-- The first three of twenty forced choices apart from the others. -/
theorem lastHit_objs {α : Type} (m : Fin 20 → Prop) [DecidablePred m] (v : Fin 20 → α) (a : α) :
    lastHit m v (if m 2 then v 2 else if m 1 then v 1 else if m 0 then v 0 else a)
      [3, 4, 5, 6, 7, 8, 9, 10, 11, 12, 13, 14, 15, 16, 17, 18, 19] = lastHit m v a objs := rfl

theorem steps_all (f : Fin 20 → EReal) : [17, 18, 19].foldl (argStep f) ([9, 10, 11, 12, 13, 14, 15, 16].foldl (argStep f)
    ([1, 2, 3, 4, 5, 6, 7, 8].foldl (argStep f) (f 0, 0#32))) = (f (firstMax f), BitVec.ofNat 32 (firstMax f)) := argRun_eq f

/-- The maximum seen after the first sixteen objects. -/
theorem run16 : k0_pay217 x0 x1 x2 x3 x4 (ix2 s l)
    = ([9, 10, 11, 12, 13, 14, 15, 16].foldl (argStep fun j : Fin 20 => k0_pay215 x0 x1 x2 x3 x4 (ix3 j s l))
        ([1, 2, 3, 4, 5, 6, 7, 8].foldl (argStep fun j : Fin 20 => k0_pay215 x0 x1 x2 x3 x4 (ix3 j s l))
          (k0_pay215 x0 x1 x2 x3 x4 (ix3 0 s l), 0#32))).1 := by
  rw [k0_pay217, max16 _ _ ([1, 2, 3, 4, 5, 6, 7, 8].foldl (argStep fun j : Fin 20 => k0_pay215 x0 x1 x2 x3 x4 (ix3 j s l))
          (k0_pay215 x0 x1 x2 x3 x4 (ix3 0 s l), 0#32)).2, k0_pay216, max8]
  rfl

theorem idx16 : k0_pay74 (k0_pay215 x0 x1 x2 x3 x4) (k0_pay46 (k0_pay212 x0 x1 x2 x3 x4) (k0_pay213 x0 x1 x2 x3 x4) (k0_pay214 x0 x1 x2 x3 x4))
      (k0_pay48 (k0_pay212 x0 x1 x2 x3 x4) (k0_pay213 x0 x1 x2 x3 x4) (k0_pay214 x0 x1 x2 x3 x4)) (k0_pay216 x0 x1 x2 x3 x4) 8#32 (ix2 s l)
    = ([9, 10, 11, 12, 13, 14, 15, 16].foldl (argStep fun j : Fin 20 => k0_pay215 x0 x1 x2 x3 x4 (ix3 j s l))
        ([1, 2, 3, 4, 5, 6, 7, 8].foldl (argStep fun j : Fin 20 => k0_pay215 x0 x1 x2 x3 x4 (ix3 j s l))
          (k0_pay215 x0 x1 x2 x3 x4 (ix3 0 s l), 0#32))).2 := by
  rw [arg16, ← select_eq, arg8, k0_pay216, max8]
  rfl

theorem best_read :
    k0_pay223 x0 x1 x2 x3 x4 (ix2 s l)
      = lastHit (fun j : Fin 20 => k0_pay219 x0 x1 x2 x3 x4 (ix3 j s l) = 1#1) (fun _ => (1 : EReal))
          (k0_pay215 x0 x1 x2 x3 x4 (ix3 (firstMax fun j => k0_pay215 x0 x1 x2 x3 x4 (ix3 j s l)) s l)) objs := by
  have hs := steps_all fun j => k0_pay215 x0 x1 x2 x3 x4 (ix3 j s l)
  rw [k0_pay223, k0_pay220, best_rest, k0_pay218, best3 _ _ _ ([9, 10, 11, 12, 13, 14, 15, 16].foldl (argStep fun j : Fin 20 => k0_pay215 x0 x1 x2 x3 x4 (ix3 j s l))
        ([1, 2, 3, 4, 5, 6, 7, 8].foldl (argStep fun j : Fin 20 => k0_pay215 x0 x1 x2 x3 x4 (ix3 j s l))
          (k0_pay215 x0 x1 x2 x3 x4 (ix3 0 s l), 0#32))).2, run16, Prod.mk.eta, hs, mask0, mask1, mask2, force_fold]
  exact lastHit_objs _ _ _

theorem idx_read :
    k0_pay222 x0 x1 x2 x3 x4 (ix2 s l)
      = lastHit (fun j : Fin 20 => k0_pay219 x0 x1 x2 x3 x4 (ix3 j s l) = 1#1) (fun j => BitVec.ofNat 32 j)
          (BitVec.ofNat 32 (firstMax fun j => k0_pay215 x0 x1 x2 x3 x4 (ix3 j s l))) objs := by
  have hs := steps_all fun j => k0_pay215 x0 x1 x2 x3 x4 (ix3 j s l)
  rw [k0_pay222, k0_pay221, k0_pay220, idx_rest, k0_pay218, idx3, run16, idx16, Prod.mk.eta, hs, mask0, mask1, mask2, force_fold]
  exact lastHit_objs _ _ _

end Cert.Multibox
end
-- ==== Proof.KerPick.lean ====
module

public import proofs.«01_k».proof.Proof.KerMatch

/-! What the kernel takes from the object matched to a prior, read at one position `(s, l)` of a block of priors: the
    object's label and the corners of its box. -/

@[expose] public section
set_option maxRecDepth 16384
noncomputable section
namespace Cert.Multibox
open Idealize.ShloMosaic Cert.LossIdeal Cert.LossIdeal.Gen

variable (x0 : Vec Ideal S1x21x8x1092 .bf16) (x1 : Vec Ideal S1x4x8x1092 .bf16) (x2 : Vec Ideal S1x20x4 .f32)
  (x3 : Vec Ideal S1x1x20 .i32) (x4 : Vec Ideal S8x8x1092 .f32) (s : Fin 8) (l : Fin 1092)

theorem select_word {α : Type} (a b : BitVec 32) (x y : α) :
    Scalar.select (IntOp.cmpi .eq a b) x y = if a = b then x else y := by
  by_cases h : a = b
  · subst h; simp [Scalar.select, IntOp.cmpi]
  · rw [if_neg h]; simp [Scalar.select, IntOp.cmpi, beq_eq_false_iff_ne.2 h]

theorem idx_fold : k0_pay112 (k0_pay219 x0 x1 x2 x3 x4) (k0_pay221 x0 x1 x2 x3 x4) = k0_pay222 x0 x1 x2 x3 x4 := rfl

theorem label_read : k0_pay228 x0 x1 x2 x3 x4 (ix2 s l)
    = lastHit (fun j : Fin 20 => k0_pay222 x0 x1 x2 x3 x4 (ix2 s l) = BitVec.ofNat 32 j) (fun j => x3 (ix3 0 0 j)) (x3 (ix3 0 0 0)) [1, 2, 3, 4, 5, 6, 7, 8, 9, 10, 11, 12, 13, 14, 15, 16, 17] := by
  refine via fun R hR => ?_
  simp only [lastHit, List.foldl_cons, List.foldl_nil] at hR
  unfold k0_pay228 k0_pay224 k0_pay227
  rw [k0_pay201]
  pointwise [k0_pay175, k0_pay174, k0_pay173, k0_pay172, k0_pay171, k0_pay170, k0_pay169, k0_pay168, k0_pay167, k0_pay166, k0_pay165, k0_pay164, k0_pay163, k0_pay162, k0_pay161, k0_pay160, k0_pay159, k0_pay158, k0_pay157, k0_pay156, k0_pay155, k0_pay154, k0_pay153, k0_pay152, k0_pay151, k0_pay150, k0_pay149, k0_pay148, k0_pay147, k0_pay146, k0_pay145, k0_pay144, k0_pay143, k0_pay142, k0_pay141, k0_pay140, k0_pay139, k0_pay138, k0_pay137, k0_pay136, k0_pay135, k0_pay134, k0_pay133, k0_pay132, k0_pay131, k0_pay130, k0_pay129, k0_pay128, k0_pay127, k0_pay126, k0_pay125, k0_pay124, k0_pay123, k0_pay122, k0_pay121, k0_pay120, k0_pay119, k0_pay118, k0_pay117, k0_pay116, k0_pay115, k0_pay114, k0_pay5, k0_pay4, idx_fold]
  simp only [select_word]
  generalize k0_pay222 x0 x1 x2 x3 x4 = V at hR ⊢
  exact hR

theorem corner0_read : k0_pay229 x0 x1 x2 x3 x4 (ix2 s l)
    = lastHit (fun j : Fin 20 => k0_pay222 x0 x1 x2 x3 x4 (ix2 s l) = BitVec.ofNat 32 j) (fun j => x2 (ix3 0 j 0)) (x2 (ix3 0 0 0)) later := by
  refine via fun R hR => ?_
  simp only [lastHit, List.foldl_cons, List.foldl_nil] at hR
  unfold k0_pay229 k0_pay224 k0_pay225 k0_pay227
  rw [k0_pay200]
  pointwise [k0_pay175, k0_pay174, k0_pay173, k0_pay172, k0_pay171, k0_pay170, k0_pay169, k0_pay168, k0_pay167, k0_pay166, k0_pay165, k0_pay164, k0_pay163, k0_pay162, k0_pay161, k0_pay160, k0_pay159, k0_pay158, k0_pay157, k0_pay156, k0_pay155, k0_pay154, k0_pay153, k0_pay152, k0_pay151, k0_pay150, k0_pay149, k0_pay148, k0_pay147, k0_pay146, k0_pay145, k0_pay144, k0_pay143, k0_pay142, k0_pay141, k0_pay140, k0_pay139, k0_pay138, k0_pay137, k0_pay136, k0_pay135, k0_pay134, k0_pay133, k0_pay132, k0_pay131, k0_pay130, k0_pay129, k0_pay128, k0_pay127, k0_pay126, k0_pay125, k0_pay124, k0_pay123, k0_pay122, k0_pay121, k0_pay120, k0_pay119, k0_pay118, k0_pay117, k0_pay116, k0_pay115, k0_pay114, k0_pay5, k0_pay4, idx_fold]
  simp only [select_word]
  generalize k0_pay222 x0 x1 x2 x3 x4 = V at hR ⊢
  exact hR

theorem corner1_read : k0_pay230 x0 x1 x2 x3 x4 (ix2 s l)
    = lastHit (fun j : Fin 20 => k0_pay222 x0 x1 x2 x3 x4 (ix2 s l) = BitVec.ofNat 32 j) (fun j => x2 (ix3 0 j 1)) (x2 (ix3 0 0 1)) later := by
  refine via fun R hR => ?_
  simp only [lastHit, List.foldl_cons, List.foldl_nil] at hR
  unfold k0_pay230 k0_pay224 k0_pay225 k0_pay227
  rw [k0_pay200]
  pointwise [k0_pay175, k0_pay174, k0_pay173, k0_pay172, k0_pay171, k0_pay170, k0_pay169, k0_pay168, k0_pay167, k0_pay166, k0_pay165, k0_pay164, k0_pay163, k0_pay162, k0_pay161, k0_pay160, k0_pay159, k0_pay158, k0_pay157, k0_pay156, k0_pay155, k0_pay154, k0_pay153, k0_pay152, k0_pay151, k0_pay150, k0_pay149, k0_pay148, k0_pay147, k0_pay146, k0_pay145, k0_pay144, k0_pay143, k0_pay142, k0_pay141, k0_pay140, k0_pay139, k0_pay138, k0_pay137, k0_pay136, k0_pay135, k0_pay134, k0_pay133, k0_pay132, k0_pay131, k0_pay130, k0_pay129, k0_pay128, k0_pay127, k0_pay126, k0_pay125, k0_pay124, k0_pay123, k0_pay122, k0_pay121, k0_pay120, k0_pay119, k0_pay118, k0_pay117, k0_pay116, k0_pay115, k0_pay114, k0_pay5, k0_pay4, idx_fold]
  simp only [select_word]
  generalize k0_pay222 x0 x1 x2 x3 x4 = V at hR ⊢
  exact hR

theorem corner2_read : k0_pay231 x0 x1 x2 x3 x4 (ix2 s l)
    = lastHit (fun j : Fin 20 => k0_pay222 x0 x1 x2 x3 x4 (ix2 s l) = BitVec.ofNat 32 j) (fun j => x2 (ix3 0 j 2)) (x2 (ix3 0 0 2)) later := by
  refine via fun R hR => ?_
  simp only [lastHit, List.foldl_cons, List.foldl_nil] at hR
  unfold k0_pay231 k0_pay224 k0_pay225 k0_pay226 k0_pay227
  rw [k0_pay200]
  pointwise [k0_pay175, k0_pay174, k0_pay173, k0_pay172, k0_pay171, k0_pay170, k0_pay169, k0_pay168, k0_pay167, k0_pay166, k0_pay165, k0_pay164, k0_pay163, k0_pay162, k0_pay161, k0_pay160, k0_pay159, k0_pay158, k0_pay157, k0_pay156, k0_pay155, k0_pay154, k0_pay153, k0_pay152, k0_pay151, k0_pay150, k0_pay149, k0_pay148, k0_pay147, k0_pay146, k0_pay145, k0_pay144, k0_pay143, k0_pay142, k0_pay141, k0_pay140, k0_pay139, k0_pay138, k0_pay137, k0_pay136, k0_pay135, k0_pay134, k0_pay133, k0_pay132, k0_pay131, k0_pay130, k0_pay129, k0_pay128, k0_pay127, k0_pay126, k0_pay125, k0_pay124, k0_pay123, k0_pay122, k0_pay121, k0_pay120, k0_pay119, k0_pay118, k0_pay117, k0_pay116, k0_pay115, k0_pay114, k0_pay5, k0_pay4, idx_fold]
  simp only [select_word]
  generalize k0_pay222 x0 x1 x2 x3 x4 = V at hR ⊢
  exact hR

theorem corner3_read : k0_pay232 x0 x1 x2 x3 x4 (ix2 s l)
    = lastHit (fun j : Fin 20 => k0_pay222 x0 x1 x2 x3 x4 (ix2 s l) = BitVec.ofNat 32 j) (fun j => x2 (ix3 0 j 3)) (x2 (ix3 0 0 3)) later := by
  refine via fun R hR => ?_
  simp only [lastHit, List.foldl_cons, List.foldl_nil] at hR
  unfold k0_pay232 k0_pay224 k0_pay225 k0_pay226 k0_pay227
  rw [k0_pay200]
  pointwise [k0_pay175, k0_pay174, k0_pay173, k0_pay172, k0_pay171, k0_pay170, k0_pay169, k0_pay168, k0_pay167, k0_pay166, k0_pay165, k0_pay164, k0_pay163, k0_pay162, k0_pay161, k0_pay160, k0_pay159, k0_pay158, k0_pay157, k0_pay156, k0_pay155, k0_pay154, k0_pay153, k0_pay152, k0_pay151, k0_pay150, k0_pay149, k0_pay148, k0_pay147, k0_pay146, k0_pay145, k0_pay144, k0_pay143, k0_pay142, k0_pay141, k0_pay140, k0_pay139, k0_pay138, k0_pay137, k0_pay136, k0_pay135, k0_pay134, k0_pay133, k0_pay132, k0_pay131, k0_pay130, k0_pay129, k0_pay128, k0_pay127, k0_pay126, k0_pay125, k0_pay124, k0_pay123, k0_pay122, k0_pay121, k0_pay120, k0_pay119, k0_pay118, k0_pay117, k0_pay116, k0_pay115, k0_pay114, k0_pay5, k0_pay4, idx_fold]
  simp only [select_word]
  generalize k0_pay222 x0 x1 x2 x3 x4 = V at hR ⊢
  exact hR

end Cert.Multibox
end
-- ==== Proof.KerForm.lean ====
module

public import proofs.«01_k».proof.Proof.KerOver
public import proofs.«01_k».proof.Proof.KerPick

/-! The losses of the kernel at one position: each value after the matching as a formula in the values before it. -/

@[expose] public section
set_option maxRecDepth 16384
noncomputable section
namespace Cert.Multibox
open Idealize.ShloMosaic Cert.LossIdeal Cert.LossIdeal.Gen

variable (x0 : Vec Ideal S1x21x8x1092 .bf16) (x1 : Vec Ideal S1x4x8x1092 .bf16) (x2 : Vec Ideal S1x20x4 .f32)
  (x3 : Vec Ideal S1x1x20 .i32) (x4 : Vec Ideal S8x8x1092 .f32) (s : Fin 8) (l : Fin 1092)
variable (v5 : FVec Ideal S4x8x1092 .f32) (v19 v21 v23 v25 v750 v754 v758 v762 : FVec Ideal S8x1092 .f32)

theorem target0 (b q : Fin 4 → EReal) : target b q 0 = Ideal.div ((b 0 + b 2) * half - q 0) (q 2 * ((1 / 10 : ℝ) : EReal)) := rfl
theorem target1 (b q : Fin 4 → EReal) : target b q 1 = Ideal.div ((b 1 + b 3) * half - q 1) (q 3 * ((1 / 10 : ℝ) : EReal)) := rfl
theorem target2 (b q : Fin 4 → EReal) : target b q 2 = Ideal.log (Ideal.div (max (b 2 - b 0) tiny) (max (q 2) tiny)) * five := rfl
theorem target3 (b q : Fin 4 → EReal) : target b q 3 = Ideal.log (Ideal.div (max (b 3 - b 1) tiny) (max (q 3) tiny)) * five := rfl

theorem sum21 (f : Fin 21 → EReal) : ∑ k, f k = f 0 + f 1 + f 2 + f 3 + f 4 + f 5 + f 6 + f 7 + f 8 + f 9 + f 10 + f 11
    + f 12 + f 13 + f 14 + f 15 + f 16 + f 17 + f 18 + f 19 + f 20 := by
  simp only [Fin.sum_univ_castSucc, Fin.sum_univ_zero, zero_add]
  rfl

theorem tenth_read : (Named.named κ "tenth" 1036831949#32 : Ideal .f32) = ((1 / 10 : ℝ) : EReal) :=
  IdealRules.named_const.ideal_named_scalar _ _ _ _ rfl

theorem lse_read : k0_pay236 x0 x1 x2 x3 x4 (ix2 s l) = lse (fun k => x0 (ix4 0 k s l)) := by
  refine via fun R hR => ?_
  unfold lse top at hR
  unfold k0_pay236 k0_pay198
  pointwise [k0_pay185, k0_pay2]
  simp only [negInf]
  exact hR

theorem later_two {α : Type} (m : Fin 20 → Prop) [DecidablePred m] (v : Fin 20 → α) (a : α) : lastHit m v a later
    = if m 19 then v 19 else if m 18 then v 18 else lastHit m v a [1, 2, 3, 4, 5, 6, 7, 8, 9, 10, 11, 12, 13, 14, 15, 16, 17] := rfl

theorem cls_read : k0_pay233 x0 x1 x2 x3 x4 (ix2 s l)
    = if k0_pay223 x0 x1 x2 x3 x4 (ix2 s l) < half then 0#32
      else lastHit (fun j : Fin 20 => k0_pay222 x0 x1 x2 x3 x4 (ix2 s l) = BitVec.ofNat 32 j) (fun j => x3 (ix3 0 0 j)) (x3 (ix3 0 0 0)) later := by
  rw [later_two, ← label_read]
  refine via fun R hR => ?_
  unfold half at hR
  unfold k0_pay233
  rw [k0_pay201]
  pointwise [k0_pay176, k0_pay171, k0_pay170, k0_pay5]
  simp only [select_word]
  exact hR

theorem pos_word : k0_pay234 x0 x1 x2 x3 x4 (ix2 s l)
    = BitVec.setWidth 32 (IntOp.andi (IntOp.cmpi .ne (k0_pay233 x0 x1 x2 x3 x4 (ix2 s l)) 0#32) (k0_pay15 (ix2 s l))) := by
  refine via fun R hR => ?_
  unfold k0_pay234 k0_pay211
  pointwise [k0_pay177]
  exact hR

theorem pos_float : k0_pay235 x0 x1 x2 x3 x4 (ix2 s l) = FloatOps.sitofp .f32 (k0_pay234 x0 x1 x2 x3 x4 (ix2 s l)) := by
  unfold k0_pay235
  pointwise [k0_pay178]

theorem count_read (v : IVec S8x1092 32) : (k0_pay179 v : Ideal .f32) = ∑ s : Fin 8, ∑ l : Fin 1092, FloatOps.sitofp .f32 (v (ix2 s l)) := by
  refine via fun R hR => ?_
  pointwise [k0_pay179, k0_pay178]
  exact hR

theorem offset_read0 : k0_pay180 v5 v19 v21 v23 v25 v750 v754 v758 v762 (ix3 0 s l) = v5 (ix3 0 s l)
    - Ideal.div ((v750 (ix2 s l) + v758 (ix2 s l)) * half - v19 (ix2 s l)) (v23 (ix2 s l) * ((1 / 10 : ℝ) : EReal)) := by
  refine via fun R hR => ?_
  rw [← tenth_read, half] at hR
  pointwise [k0_pay180]
  exact hR

theorem offset_read1 : k0_pay180 v5 v19 v21 v23 v25 v750 v754 v758 v762 (ix3 1 s l) = v5 (ix3 1 s l)
    - Ideal.div ((v754 (ix2 s l) + v762 (ix2 s l)) * half - v21 (ix2 s l)) (v25 (ix2 s l) * ((1 / 10 : ℝ) : EReal)) := by
  refine via fun R hR => ?_
  rw [← tenth_read, half] at hR
  pointwise [k0_pay180]
  exact hR

theorem offset_read2 : k0_pay180 v5 v19 v21 v23 v25 v750 v754 v758 v762 (ix3 2 s l) = v5 (ix3 2 s l)
    - Ideal.log (Ideal.div (max (v758 (ix2 s l) - v750 (ix2 s l)) tiny) (max (v23 (ix2 s l)) tiny)) * five := by
  refine via fun R hR => ?_
  unfold tiny five at hR
  pointwise [k0_pay180]
  exact hR

theorem offset_read3 : k0_pay180 v5 v19 v21 v23 v25 v750 v754 v758 v762 (ix3 3 s l) = v5 (ix3 3 s l)
    - Ideal.log (Ideal.div (max (v762 (ix2 s l) - v754 (ix2 s l)) tiny) (max (v25 (ix2 s l)) tiny)) * five := by
  refine via fun R hR => ?_
  unfold tiny five at hR
  pointwise [k0_pay180]
  exact hR

theorem abs_read (i : S4x8x1092.Idx) : k0_pay181 v5 v19 v21 v23 v25 v750 v754 v758 v762 i
    = max (k0_pay180 v5 v19 v21 v23 v25 v750 v754 v758 v762 i) (-k0_pay180 v5 v19 v21 v23 v25 v750 v754 v758 v762 i) := rfl

theorem under_read (c : Fin 4) : k0_pay182 v5 v19 v21 v23 v25 v750 v754 v758 v762 (ix3 c s l)
    = BitVec.ofBool (decide (max (k0_pay180 v5 v19 v21 v23 v25 v750 v754 v758 v762 (ix3 c s l)) (-k0_pay180 v5 v19 v21 v23 v25 v750 v754 v758 v762 (ix3 c s l)) < 1)) := by
  rw [← abs_read]
  generalize h : k0_pay181 v5 v19 v21 v23 v25 v750 v754 v758 v762 = w
  refine via fun R hR => ?_
  unfold k0_pay182
  rw [h]
  pointwise
  exact hR

theorem half_read (c : Fin 4) : (k0_pay183 (ix3 c s l) : Ideal .f32) = half := rfl

theorem loc_read (v771 : FVec Ideal S8x1092 .f32) (v813 v814 : FVec Ideal S4x8x1092 .f32) (v816 : IVec S4x8x1092 1)
    (v817 : FVec Ideal S4x8x1092 .f32) : k0_pay184 v771 v813 v814 v816 v817
      = ∑ c : Fin 4, ∑ s : Fin 8, ∑ l : Fin 1092, Scalar.select (v816 (ix3 c s l))
          (v817 (ix3 c s l) * v813 (ix3 c s l) * v813 (ix3 c s l)) (v814 (ix3 c s l) - half) * v771 (ix2 s l) := by
  refine via fun R hR => ?_
  unfold half at hR
  pointwise [k0_pay184]
  rw [Ideal.reduceAdd_total _ (by decide), sum_idx4]
  pointwise
  rw [Fin.sum_univ_one]
  exact hR

theorem conf_read (v2 : FVec Ideal S21x8x1092 .f32) (v766 : IVec S8x1092 32) (v771 v837 v957 : FVec Ideal S8x1092 .f32) :
    k0_pay195 v2 v766 v771 v837 v957 17#32
      = ∑ s : Fin 8, ∑ l : Fin 1092, (v837 (ix2 s l) - (v957 (ix2 s l) + (if v766 (ix2 s l) = 17#32 then v2 (ix3 17 s l) else 0)
        + (if v766 (ix2 s l) = 18#32 then v2 (ix3 18 s l) else 0) + (if v766 (ix2 s l) = 19#32 then v2 (ix3 19 s l) else 0)
        + (if v766 (ix2 s l) = 20#32 then v2 (ix3 20 s l) else 0))) * v771 (ix2 s l) := by
  refine via fun R hR => ?_
  pointwise [k0_pay195, k0_pay194]
  simp only [select_word]
  exact hR

theorem neg_read (v2 : FVec Ideal S21x8x1092 .f32) (v32 : IVec S8x1092 1) (v766 : IVec S8x1092 32) (v837 v957 : FVec Ideal S8x1092 .f32) :
    k0_pay196 v2 v32 v766 v837 v957 17#32 (ix3 0 s l)
      = Scalar.select (IntOp.andi (IntOp.cmpi .eq (v766 (ix2 s l)) 0#32) (v32 (ix2 s l)))
        (v837 (ix2 s l) - (v957 (ix2 s l) + (if v766 (ix2 s l) = 17#32 then v2 (ix3 17 s l) else 0)
        + (if v766 (ix2 s l) = 18#32 then v2 (ix3 18 s l) else 0) + (if v766 (ix2 s l) = 19#32 then v2 (ix3 19 s l) else 0)
        + (if v766 (ix2 s l) = 20#32 then v2 (ix3 20 s l) else 0))) 0 := by
  refine via fun R hR => ?_
  pointwise [k0_pay196, k0_pay194]
  simp only [select_word]
  exact hR

theorem picked_read (v2 : FVec Ideal S21x8x1092 .f32) (v766 : IVec S8x1092 32) :
    k0_pay193 v2 v766 (k0_pay190 v2 v766 (k0_pay186 v2 v766) (k0_pay187 v766) (k0_pay188 v2) k0_pay189) (k0_pay191 v766) (k0_pay192 v2) (ix2 s l)
      = (if v766 (ix2 s l) = 0#32 then v2 (ix3 0 s l) else 0) + (if v766 (ix2 s l) = 1#32 then v2 (ix3 1 s l) else 0)
        + (if v766 (ix2 s l) = 2#32 then v2 (ix3 2 s l) else 0) + (if v766 (ix2 s l) = 3#32 then v2 (ix3 3 s l) else 0)
        + (if v766 (ix2 s l) = 4#32 then v2 (ix3 4 s l) else 0) + (if v766 (ix2 s l) = 5#32 then v2 (ix3 5 s l) else 0)
        + (if v766 (ix2 s l) = 6#32 then v2 (ix3 6 s l) else 0) + (if v766 (ix2 s l) = 7#32 then v2 (ix3 7 s l) else 0)
        + (if v766 (ix2 s l) = 8#32 then v2 (ix3 8 s l) else 0) + (if v766 (ix2 s l) = 9#32 then v2 (ix3 9 s l) else 0)
        + (if v766 (ix2 s l) = 10#32 then v2 (ix3 10 s l) else 0) + (if v766 (ix2 s l) = 11#32 then v2 (ix3 11 s l) else 0)
        + (if v766 (ix2 s l) = 12#32 then v2 (ix3 12 s l) else 0) + (if v766 (ix2 s l) = 13#32 then v2 (ix3 13 s l) else 0)
        + (if v766 (ix2 s l) = 14#32 then v2 (ix3 14 s l) else 0) + (if v766 (ix2 s l) = 15#32 then v2 (ix3 15 s l) else 0)
        + (if v766 (ix2 s l) = 16#32 then v2 (ix3 16 s l) else 0) := by
  refine via fun R hR => ?_
  pointwise [k0_pay193, k0_pay192, k0_pay191, k0_pay190, k0_pay189, k0_pay188, k0_pay187, k0_pay186]
  simp only [select_word]
  exact hR

theorem row_read (a b c : Ideal .f32) (e : Fin 8) : k0_pay1 a b c (iota .tc S1x8 32 [1] iota_S1x8_d1_w32) k0_pay197 (ix3 0 0 e)
    = (if BitVec.ofNat 32 e = 0#32 then a else 0) + (if BitVec.ofNat 32 e = 1#32 then b else 0) + (if BitVec.ofNat 32 e = 2#32 then c else 0) := by
  refine via fun R hR => ?_
  pointwise [k0_pay1, k0_pay197]
  simp only [select_word]
  exact hR

theorem score_read (k : Fin 21) : k0_pay198 x0 x1 x2 x3 x4 (ix3 k s l) = x0 (ix4 0 k s l) := by
  unfold k0_pay198
  pointwise [k0_pay2]

theorem offsets_read (c : Fin 4) : k0_pay199 x0 x1 x2 x3 x4 (ix3 c s l) = x1 (ix4 0 c s l) := by
  unfold k0_pay199
  pointwise [k0_pay3]

theorem centre0_read : k0_pay206 x0 x1 x2 x3 x4 (ix2 s l) = x4 (ix3 4 s l) := by
  unfold k0_pay206
  pointwise [k0_pay10]

theorem centre1_read : k0_pay207 x0 x1 x2 x3 x4 (ix2 s l) = x4 (ix3 5 s l) := by
  unfold k0_pay207
  pointwise [k0_pay11]

theorem centre2_read : k0_pay208 x0 x1 x2 x3 x4 (ix2 s l) = x4 (ix3 6 s l) := by
  unfold k0_pay208
  pointwise [k0_pay12]

theorem centre3_read : k0_pay209 x0 x1 x2 x3 x4 (ix2 s l) = x4 (ix3 7 s l) := by
  unfold k0_pay209
  pointwise [k0_pay13]

end Cert.Multibox
end
-- ==== Proof.KerLoss.lean ====
module

public import proofs.«01_k».proof.Proof.KerForm

/-! What the kernel writes for one image, when its blocks hold the image's numbers: the three sums and the cross entropy of
    the background priors, as the model gives them. -/

@[expose] public section
set_option maxRecDepth 16384
noncomputable section
namespace Cert.Multibox
open Idealize.ShloMosaic Cert.LossIdeal Cert.LossIdeal.Gen

variable {x0 : Vec Ideal S1x21x8x1092 .bf16} {x1 : Vec Ideal S1x4x8x1092 .bf16} {x2 : Vec Ideal S1x20x4 .f32}
  {x3 : Vec Ideal S1x1x20 .i32} {x4 : Vec Ideal S8x8x1092 .f32} {I : Image} (s : Fin 8) (l : Fin 1092)

/-- The blocks hold the numbers of image `I`; the corners of the four priors beyond the last are 0. -/
structure Holds (I : Image) (x0 : Vec Ideal S1x21x8x1092 .bf16) (x1 : Vec Ideal S1x4x8x1092 .bf16) (x2 : Vec Ideal S1x20x4 .f32)
    (x3 : Vec Ideal S1x1x20 .i32) (x4 : Vec Ideal S8x8x1092 .f32) : Prop where
  sc : ∀ s l (hp : place (s, l) < 8732) k, x0 (ix4 0 k s l) = I.sc ⟨place (s, l), hp⟩ k
  pb : ∀ s l (hp : place (s, l) < 8732) c, x1 (ix4 0 c s l) = I.pb ⟨place (s, l), hp⟩ c
  bx : ∀ j c, x2 (ix3 0 j c) = I.bx j c
  lab : ∀ j, x3 (ix3 0 0 j) = I.lab j
  pxy : ∀ s l (hp : place (s, l) < 8732) (c : Fin 4), x4 (ix3 ⟨c, by omega⟩ s l) = I.pxy ⟨place (s, l), hp⟩ c
  pad : ∀ s l, ¬ place (s, l) < 8732 → ∀ c : Fin 4, x4 (ix3 ⟨c, by omega⟩ s l) = 0
  pc : ∀ s l (hp : place (s, l) < 8732) (c : Fin 4), x4 (ix3 ⟨c + 4, by omega⟩ s l) = I.pc ⟨place (s, l), hp⟩ c

variable (hI : Holds I x0 x1 x2 x3 x4) (ok : I.Ok)
include hI

theorem ov_at (hp : place (s, l) < 8732) (j : Fin 20) : k0_pay215 x0 x1 x2 x3 x4 (ix3 j s l) = I.ov j ⟨place (s, l), hp⟩ := by
  rw [over_read]
  simp only [hI.bx, hI.pxy s l hp]
  rfl

include ok in
theorem ov_pad (hp : ¬ place (s, l) < 8732) (j : Fin 20) : k0_pay215 x0 x1 x2 x3 x4 (ix3 j s l) = 0 := by
  rw [over_read]
  simp only [hI.bx]
  exact iou_origin (ok.bx j) (hI.pad s l hp)

include ok in
theorem own_at (hp : place (s, l) < 8732) (j : Fin 20) :
    k0_pay219 x0 x1 x2 x3 x4 (ix3 j s l) = 1#1 ↔ I.own j = ⟨place (s, l), hp⟩ := by
  have hspec := firstMax_spec (I.ov j)
  have hlt : (I.own j : ℕ) < 8736 := by omega
  have hsp := place_spot (I.own j) hlt
  have hpa : place ((spot (I.own j) hlt).1, (spot (I.own j) hlt).2) < 8732 := lt_of_eq_of_lt hsp (I.own j).isLt
  have hin : (⟨place ((spot (I.own j) hlt).1, (spot (I.own j) hlt).2), hpa⟩ : Fin 8732) = I.own j := Fin.ext hsp
  have key := force_read s l (k0_pay215 x0 x1 x2 x3 x4) j (spot (I.own j) hlt)
    (by
      intro x
      rw [ov_at _ _ hI hpa, hin]
      by_cases hx : place (x.1, x.2) < 8732
      · rw [ov_at _ _ hI hx]; exact hspec.1 _
      · rw [ov_pad _ _ hI ok hx]; exact iou_nonneg (ok.bx j) (ok.pxy _))
    (by
      intro x
      rw [ov_at _ _ hI hpa, hin, hsp]
      by_cases hx : place (x.1, x.2) < 8732
      · rw [ov_at _ _ hI hx]; exact fun h => hspec.2 _ h
      · intro _; have : ¬ place x < 8732 := hx; omega)
  rw [← force_fold]
  refine Iff.trans key ?_
  rw [hsp, Fin.ext_iff]
  exact eq_comm

include ok in
theorem best_at (hp : place (s, l) < 8732) : k0_pay223 x0 x1 x2 x3 x4 (ix2 s l) = I.best ⟨place (s, l), hp⟩ := by
  rw [best_read, lastHit_congr _ _ _ _ _ (own_at s l hI ok hp)]
  simp only [ov_at s l hI hp]
  rfl

include ok in
theorem obj_at (hp : place (s, l) < 8732) : k0_pay222 x0 x1 x2 x3 x4 (ix2 s l) = BitVec.ofNat 32 (I.obj ⟨place (s, l), hp⟩) := by
  rw [idx_read, lastHit_congr _ _ _ _ _ (own_at s l hI ok hp)]
  simp only [ov_at s l hI hp]
  exact (lastHit_map _ id _ objs fun j : Fin 20 => BitVec.ofNat 32 j).symm

include ok in
theorem cls_at (hp : place (s, l) < 8732) : k0_pay233 x0 x1 x2 x3 x4 (ix2 s l) = I.cls ⟨place (s, l), hp⟩ := by
  rw [cls_read, best_at s l hI ok hp, obj_at s l hI ok hp, pick_eq _ fun j => x3 (ix3 0 0 j), hI.lab]
  rfl

include ok in
theorem corner0_at (hp : place (s, l) < 8732) : k0_pay229 x0 x1 x2 x3 x4 (ix2 s l) = I.bx (I.obj ⟨place (s, l), hp⟩) 0 := by
  rw [corner0_read, obj_at s l hI ok hp, pick_eq _ fun j => x2 (ix3 0 j 0), hI.bx]

include ok in
theorem corner1_at (hp : place (s, l) < 8732) : k0_pay230 x0 x1 x2 x3 x4 (ix2 s l) = I.bx (I.obj ⟨place (s, l), hp⟩) 1 := by
  rw [corner1_read, obj_at s l hI ok hp, pick_eq _ fun j => x2 (ix3 0 j 1), hI.bx]

include ok in
theorem corner2_at (hp : place (s, l) < 8732) : k0_pay231 x0 x1 x2 x3 x4 (ix2 s l) = I.bx (I.obj ⟨place (s, l), hp⟩) 2 := by
  rw [corner2_read, obj_at s l hI ok hp, pick_eq _ fun j => x2 (ix3 0 j 2), hI.bx]

include ok in
theorem corner3_at (hp : place (s, l) < 8732) : k0_pay232 x0 x1 x2 x3 x4 (ix2 s l) = I.bx (I.obj ⟨place (s, l), hp⟩) 3 := by
  rw [corner3_read, obj_at s l hI ok hp, pick_eq _ fun j => x2 (ix3 0 j 3), hI.bx]

omit hI in
theorem setWidth_bit (a b : Bool) : (BitVec.setWidth 32 (IntOp.andi (BitVec.ofBool a) (BitVec.ofBool b)))
    = if a = true ∧ b = true then 1#32 else 0#32 := by
  revert a b; decide

include ok in
theorem pos_at (hp : place (s, l) < 8732) : k0_pay235 x0 x1 x2 x3 x4 (ix2 s l) = I.pos ⟨place (s, l), hp⟩ := by
  rw [pos_float, pos_word, valid_read, cls_at s l hI ok hp]
  have hd : decide ((s : ℕ) * 1092 + l < 8732) = true := decide_eq_true hp
  rw [hd]
  unfold Image.pos
  by_cases h : I.cls ⟨place (s, l), hp⟩ = 0#32
  · rw [if_pos h, h]
    show ((((BitVec.setWidth 32 (IntOp.andi (IntOp.cmpi .ne 0#32 0#32) (BitVec.ofBool true))).toInt : ℝ)) : EReal) = 0
    have : (BitVec.setWidth 32 (IntOp.andi (IntOp.cmpi .ne 0#32 0#32) (BitVec.ofBool true))).toInt = 0 := by decide
    rw [this]; simp
  · have hn : IntOp.cmpi .ne (I.cls ⟨place (s, l), hp⟩) 0#32 = 1#1 := by
      show BitVec.ofBool (_ != _) = 1#1
      rw [bne_iff_ne.2 h]; rfl
    rw [if_neg h, hn]
    show ((((BitVec.setWidth 32 (IntOp.andi 1#1 (BitVec.ofBool true))).toInt : ℝ)) : EReal) = 1
    have : (BitVec.setWidth 32 (IntOp.andi 1#1 (BitVec.ofBool true))).toInt = 1 := by decide
    rw [this]; simp

omit hI in
theorem pos_pad (hp : ¬ place (s, l) < 8732) : k0_pay235 x0 x1 x2 x3 x4 (ix2 s l) = 0 := by
  rw [pos_float, pos_word, valid_read]
  have hd : decide ((s : ℕ) * 1092 + l < 8732) = false := decide_eq_false hp
  rw [hd]
  have h0 : ∀ w : BitVec 1, (BitVec.setWidth 32 (IntOp.andi w (BitVec.ofBool false))).toInt = 0 := by decide
  show (((BitVec.setWidth 32 (IntOp.andi _ (BitVec.ofBool false))).toInt : ℝ) : EReal) = 0
  rw [h0]; simp

/-- The cross entropy at a position, from its parts. -/
theorem ce_at (hp : place (s, l) < 8732) (w : BitVec 32) (hw : k0_pay233 x0 x1 x2 x3 x4 (ix2 s l) = w) :
    k0_pay236 x0 x1 x2 x3 x4 (ix2 s l) - (k0_pay237 x0 x1 x2 x3 x4 (ix2 s l)
        + (if w = 17#32 then k0_pay198 x0 x1 x2 x3 x4 (ix3 17 s l) else 0)
        + (if w = 18#32 then k0_pay198 x0 x1 x2 x3 x4 (ix3 18 s l) else 0)
        + (if w = 19#32 then k0_pay198 x0 x1 x2 x3 x4 (ix3 19 s l) else 0)
        + (if w = 20#32 then k0_pay198 x0 x1 x2 x3 x4 (ix3 20 s l) else 0))
      = lse (I.sc ⟨place (s, l), hp⟩) - pick (I.sc ⟨place (s, l), hp⟩) w := by
  rw [lse_read, k0_pay237, picked_read, pick, sum21, hw]
  simp only [score_read, hI.sc s l hp]
  rfl

include ok in
/-- What is written at a position of the second result. -/
theorem neg_at (hp : place (s, l) < 8732) : k0_pay196 (k0_pay198 x0 x1 x2 x3 x4) (k0_pay211 x0 x1 x2 x3 x4) (k0_pay233 x0 x1 x2 x3 x4)
    (k0_pay236 x0 x1 x2 x3 x4) (k0_pay237 x0 x1 x2 x3 x4) 17#32 (ix3 0 s l) = I.neg ⟨place (s, l), hp⟩ := by
  rw [neg_read, ce_at s l hI hp _ rfl, cls_at s l hI ok hp]
  have hv : k0_pay211 x0 x1 x2 x3 x4 (ix2 s l) = 1#1 := by
    have : k0_pay211 x0 x1 x2 x3 x4 = k0_pay15 := rfl
    rw [this, valid_read]
    have hd : decide ((s : ℕ) * 1092 + l < 8732) = true := decide_eq_true hp
    rw [hd]; rfl
  rw [hv]
  have h1 : ∀ w : BitVec 1, IntOp.andi w 1#1 = w := by decide
  rw [h1, select_word]
  rfl

omit hI in
theorem neg_pad (hp : ¬ place (s, l) < 8732) : k0_pay196 (k0_pay198 x0 x1 x2 x3 x4) (k0_pay211 x0 x1 x2 x3 x4) (k0_pay233 x0 x1 x2 x3 x4)
    (k0_pay236 x0 x1 x2 x3 x4) (k0_pay237 x0 x1 x2 x3 x4) 17#32 (ix3 0 s l) = 0 := by
  rw [neg_read]
  have hv : k0_pay211 x0 x1 x2 x3 x4 (ix2 s l) = 0#1 := by
    have : k0_pay211 x0 x1 x2 x3 x4 = k0_pay15 := rfl
    rw [this, valid_read]
    have hd : decide ((s : ℕ) * 1092 + l < 8732) = false := decide_eq_false hp
    rw [hd]; rfl
  rw [hv]
  have h1 : ∀ w : BitVec 1, IntOp.andi w 0#1 = 0#1 := by decide
  rw [h1, select_eq, if_neg (by decide)]

include ok in
theorem count_at : (k0_pay179 (k0_pay234 x0 x1 x2 x3 x4) : Ideal .f32) = ∑ p, I.pos p := by
  rw [count_read]
  refine sum_place _ _ (fun s l hp => ?_) (fun s l hp => ?_)
  · rw [← pos_float]; exact pos_at s l hI ok hp
  · rw [← pos_float]; exact pos_pad s l hp

include ok in
theorem conf_at : k0_pay195 (k0_pay198 x0 x1 x2 x3 x4) (k0_pay233 x0 x1 x2 x3 x4) (k0_pay235 x0 x1 x2 x3 x4) (k0_pay236 x0 x1 x2 x3 x4)
    (k0_pay237 x0 x1 x2 x3 x4) 17#32 = ∑ p, I.ce p * I.pos p := by
  rw [conf_read]
  refine sum_place _ _ (fun s l hp => ?_) (fun s l hp => ?_)
  · beta_reduce
    rw [ce_at s l hI hp _ rfl, cls_at s l hI ok hp, pos_at s l hI ok hp]; rfl
  · beta_reduce
    rw [pos_pad s l hp, mul_zero]

/-- The differences of the predicted offsets from the targets, as the kernel names them. -/
abbrev diffs (x0 : Vec Ideal S1x21x8x1092 .bf16) (x1 : Vec Ideal S1x4x8x1092 .bf16) (x2 : Vec Ideal S1x20x4 .f32)
    (x3 : Vec Ideal S1x1x20 .i32) (x4 : Vec Ideal S8x8x1092 .f32) : FVec Ideal S4x8x1092 .f32 :=
  k0_pay180 (k0_pay199 x0 x1 x2 x3 x4) (k0_pay206 x0 x1 x2 x3 x4) (k0_pay207 x0 x1 x2 x3 x4) (k0_pay208 x0 x1 x2 x3 x4) (k0_pay209 x0 x1 x2 x3 x4)
    (k0_pay229 x0 x1 x2 x3 x4) (k0_pay230 x0 x1 x2 x3 x4) (k0_pay231 x0 x1 x2 x3 x4) (k0_pay232 x0 x1 x2 x3 x4)

include ok in
theorem diff_at (hp : place (s, l) < 8732) (c : Fin 4) : diffs x0 x1 x2 x3 x4 (ix3 c s l)
    = I.pb ⟨place (s, l), hp⟩ c - target (I.bx (I.obj ⟨place (s, l), hp⟩)) (I.pc ⟨place (s, l), hp⟩) c := by
  have e0 : x4 (ix3 4 s l) = I.pc ⟨place (s, l), hp⟩ 0 := hI.pc s l hp 0
  have e1 : x4 (ix3 5 s l) = I.pc ⟨place (s, l), hp⟩ 1 := hI.pc s l hp 1
  have e2 : x4 (ix3 6 s l) = I.pc ⟨place (s, l), hp⟩ 2 := hI.pc s l hp 2
  have e3 : x4 (ix3 7 s l) = I.pc ⟨place (s, l), hp⟩ 3 := hI.pc s l hp 3
  unfold diffs
  match c with
  | 0 => rw [offset_read0, offsets_read, hI.pb s l hp, centre0_read, centre2_read, corner0_at s l hI ok hp, corner2_at s l hI ok hp, e0, e2, target0]
  | 1 => rw [offset_read1, offsets_read, hI.pb s l hp, centre1_read, centre3_read, corner1_at s l hI ok hp, corner3_at s l hI ok hp, e1, e3, target1]
  | 2 => rw [offset_read2, offsets_read, hI.pb s l hp, centre2_read, corner0_at s l hI ok hp, corner2_at s l hI ok hp, e2, target2]
  | 3 => rw [offset_read3, offsets_read, hI.pb s l hp, centre3_read, corner1_at s l hI ok hp, corner3_at s l hI ok hp, e3, target3]

omit hI in
theorem select_bool {α : Type} (b : Prop) [Decidable b] (x y : α) : Scalar.select (BitVec.ofBool (decide b)) x y = if b then x else y := by
  by_cases h : b <;> simp [Scalar.select, h]

include ok in
theorem loc_at : k0_pay184 (k0_pay235 x0 x1 x2 x3 x4) (diffs x0 x1 x2 x3 x4)
    (k0_pay181 (k0_pay199 x0 x1 x2 x3 x4) (k0_pay206 x0 x1 x2 x3 x4) (k0_pay207 x0 x1 x2 x3 x4) (k0_pay208 x0 x1 x2 x3 x4) (k0_pay209 x0 x1 x2 x3 x4) (k0_pay229 x0 x1 x2 x3 x4) (k0_pay230 x0 x1 x2 x3 x4) (k0_pay231 x0 x1 x2 x3 x4) (k0_pay232 x0 x1 x2 x3 x4))
    (k0_pay182 (k0_pay199 x0 x1 x2 x3 x4) (k0_pay206 x0 x1 x2 x3 x4) (k0_pay207 x0 x1 x2 x3 x4) (k0_pay208 x0 x1 x2 x3 x4) (k0_pay209 x0 x1 x2 x3 x4) (k0_pay229 x0 x1 x2 x3 x4) (k0_pay230 x0 x1 x2 x3 x4) (k0_pay231 x0 x1 x2 x3 x4) (k0_pay232 x0 x1 x2 x3 x4))
    k0_pay183 = ∑ p, ∑ c, I.loc p c := by
  have hc : ∑ p, ∑ c, I.loc p c = ∑ c, ∑ p, I.loc p c := Finset.sum_comm
  rw [loc_read, hc]
  refine Finset.sum_congr rfl fun c _ => ?_
  refine sum_place _ _ (fun s l hp => ?_) (fun s l hp => ?_)
  · beta_reduce
    have hd := diff_at s l hI ok hp c
    unfold diffs at hd ⊢
    rw [under_read, abs_read, half_read, select_bool, hd, pos_at s l hI ok hp]; rfl
  · beta_reduce
    rw [pos_pad s l hp, mul_zero]

omit hI in
theorem zeros : (![0, 0, 0] : Fin 3 → ℕ) = fun _ => 0 := by decide

include ok in
/-- The first result of an image. -/
theorem out5_at (e : Fin 8) : out0_5 x0 x1 x2 x3 x4 (ix3 0 0 e) = I.sums e := by
  unfold out0_5
  rw [View.canon_unit_zero (S := S1x1x8) zeros]
  rw [row_read, count_at hI ok, loc_at hI ok, conf_at hI ok]
  fin_cases e <;> simp [Image.sums]

include ok in
/-- The second result of an image. -/
theorem out6_at (hp : place (s, l) < 8732) : out0_6 x0 x1 x2 x3 x4 (ix3 0 s l) = I.neg ⟨place (s, l), hp⟩ := by
  unfold out0_6
  rw [View.canon_unit_zero (S := S1x8x1092) zeros]
  exact neg_at s l hI ok hp

omit hI in
theorem out6_pad (hp : ¬ place (s, l) < 8732) : out0_6 x0 x1 x2 x3 x4 (ix3 0 s l) = 0 := by
  unfold out0_6
  rw [View.canon_unit_zero (S := S1x8x1092) zeros]
  exact neg_pad s l hp

end Cert.Multibox
end
-- ==== Proof.Blocks.lean ====
module

public import proofs.«01_k».proof.Proof.Entry
public import proofs.«01_k».proof.Proof.KerLoss

/-!
The two arrays that the kernel's launch leaves, as functions of its arguments: each block is placed in its array, so a
grid point's blocks hold the numbers of its image; and each point writes its image's row.
-/

@[expose] public section
set_option maxRecDepth 16384
noncomputable section
namespace Cert.Multibox
open Idealize.ShloMosaic Idealize.ShloMosaic.TcCoe Idealize.SL.Sem Cert.LossIdeal Cert.LossIdeal.Gen Cert.LossIdeal.Value

/-- Image `t` of the six arguments. -/
def image (a0 : Vec Ideal S32x8732x4 .f32) (a1 : Vec Ideal S32x8732x21 .f32) (a2 : Vec Ideal S32x20x4 .f32) (a3 : Vec Ideal S32x20 .i32)
    (a4 a5 : Vec Ideal S8732x4 .f32) (t : Fin 32) : Image where
  sc p k := a1 (ix3 t p k)
  pb p k := a0 (ix3 t p k)
  bx j k := a2 (ix3 t j k)
  lab j := a3 (ix2 t j)
  pxy p k := a4 (ix2 p k)
  pc p k := a5 (ix2 p k)

variable (m : (ℓ : Loc nD τ sig) → Buf (Elt Ideal) ℓ) (ρ : Dev nD → PrngReg) (c : Dev nD) (t : Fin cfg0.N)

/-- Image `t` of the arguments as launched. -/
def imageOf (t : Fin 32) : Image :=
  image (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) t

theorem point0 : ∀ t : Fin cfg0.N, win0_0.index t (0 : Fin 4) = t ∧ win0_0.index t (1 : Fin 4) = 0 ∧
    win0_0.index t (2 : Fin 4) = 0 ∧ win0_0.index t (3 : Fin 4) = 0 := (by decide +kernel : ∀ t : Fin grid0.N, _)
theorem point1 : ∀ t : Fin cfg0.N, win0_1.index t (0 : Fin 4) = t ∧ win0_1.index t (1 : Fin 4) = 0 ∧
    win0_1.index t (2 : Fin 4) = 0 ∧ win0_1.index t (3 : Fin 4) = 0 := (by decide +kernel : ∀ t : Fin grid0.N, _)
theorem point2 : ∀ t : Fin cfg0.N, win0_2.index t (0 : Fin 3) = t ∧ win0_2.index t (1 : Fin 3) = 0 ∧
    win0_2.index t (2 : Fin 3) = 0 := (by decide +kernel : ∀ t : Fin grid0.N, _)
theorem point3 : ∀ t : Fin cfg0.N, win0_3.index t (0 : Fin 3) = t ∧ win0_3.index t (1 : Fin 3) = 0 ∧
    win0_3.index t (2 : Fin 3) = 0 := (by decide +kernel : ∀ t : Fin grid0.N, _)
theorem point4 : ∀ t : Fin cfg0.N, win0_4.index t (0 : Fin 3) = 0 ∧ win0_4.index t (1 : Fin 3) = 0 ∧
    win0_4.index t (2 : Fin 3) = 0 := (by decide +kernel : ∀ t : Fin grid0.N, _)
theorem point5 : ∀ t : Fin cfg0.N, win0_5.index t (0 : Fin 3) = t ∧ win0_5.index t (1 : Fin 3) = 0 ∧
    win0_5.index t (2 : Fin 3) = 0 := (by decide +kernel : ∀ t : Fin grid0.N, _)
theorem point6 : ∀ t : Fin cfg0.N, win0_6.index t (0 : Fin 3) = t ∧ win0_6.index t (1 : Fin 3) = 0 ∧
    win0_6.index t (2 : Fin 3) = 0 := (by decide +kernel : ∀ t : Fin grid0.N, _)

theorem emb0 (k : Fin 21) (s : Fin 8) (l : Fin 1092) :
    ((cfg0.win 0).blk t).view.emb (ix4 0 k s l : S1x21x8x1092.Idx) = (ix4 (t : Fin 32) k s l : S32x21x8x1092.Idx) := by
  obtain ⟨e0, e1, e2, e3⟩ := point0 t
  funext a; apply Fin.ext
  match a with
  | ⟨0, _⟩ => show win0_0.index t (0 : Fin 4) * 1 + 1 * 0 = t.val; omega
  | ⟨1, _⟩ => show win0_0.index t (1 : Fin 4) * 21 + 1 * k.val = k.val; omega
  | ⟨2, _⟩ => show win0_0.index t (2 : Fin 4) * 8 + 1 * s.val = s.val; omega
  | ⟨3, _⟩ => show win0_0.index t (3 : Fin 4) * 1092 + 1 * l.val = l.val; omega

theorem emb1 (k : Fin 4) (s : Fin 8) (l : Fin 1092) :
    ((cfg0.win 1).blk t).view.emb (ix4 0 k s l : S1x4x8x1092.Idx) = (ix4 (t : Fin 32) k s l : S32x4x8x1092.Idx) := by
  obtain ⟨e0, e1, e2, e3⟩ := point1 t
  funext a; apply Fin.ext
  match a with
  | ⟨0, _⟩ => show win0_1.index t (0 : Fin 4) * 1 + 1 * 0 = t.val; omega
  | ⟨1, _⟩ => show win0_1.index t (1 : Fin 4) * 4 + 1 * k.val = k.val; omega
  | ⟨2, _⟩ => show win0_1.index t (2 : Fin 4) * 8 + 1 * s.val = s.val; omega
  | ⟨3, _⟩ => show win0_1.index t (3 : Fin 4) * 1092 + 1 * l.val = l.val; omega

theorem emb2 (j : Fin 20) (k : Fin 4) :
    ((cfg0.win 2).blk t).view.emb (ix3 0 j k : S1x20x4.Idx) = (ix3 (t : Fin 32) j k : S32x20x4.Idx) := by
  obtain ⟨e0, e1, e2⟩ := point2 t
  funext a; apply Fin.ext
  match a with
  | ⟨0, _⟩ => show win0_2.index t (0 : Fin 3) * 1 + 1 * 0 = t.val; omega
  | ⟨1, _⟩ => show win0_2.index t (1 : Fin 3) * 20 + 1 * j.val = j.val; omega
  | ⟨2, _⟩ => show win0_2.index t (2 : Fin 3) * 4 + 1 * k.val = k.val; omega

theorem emb3 (j : Fin 20) :
    ((cfg0.win 3).blk t).view.emb (ix3 0 0 j : S1x1x20.Idx) = (ix3 (t : Fin 32) 0 j : S32x1x20.Idx) := by
  obtain ⟨e0, e1, e2⟩ := point3 t
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 20 + 1 * j.val = j.val; omega

theorem emb4 (k : Fin 8) (s : Fin 8) (l : Fin 1092) :
    ((cfg0.win 4).blk t).view.emb (ix3 k s l : S8x8x1092.Idx) = (ix3 k s l : S8x8x1092.Idx) := by
  obtain ⟨e0, e1, e2⟩ := point4 t
  funext a; apply Fin.ext
  match a with
  | ⟨0, _⟩ => show win0_4.index t (0 : Fin 3) * 8 + 1 * k.val = k.val; omega
  | ⟨1, _⟩ => show win0_4.index t (1 : Fin 3) * 8 + 1 * s.val = s.val; omega
  | ⟨2, _⟩ => show win0_4.index t (2 : Fin 3) * 1092 + 1 * l.val = l.val; omega

theorem emb5 (e : Fin 8) :
    ((cfg0.win 5).blk t).view.emb (ix3 0 0 e : S1x1x8.Idx) = (ix3 (t : Fin 32) 0 e : S32x1x8.Idx) := by
  obtain ⟨e0, e1, e2⟩ := point5 t
  funext a; apply Fin.ext
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 8 + 1 * e.val = e.val; omega

theorem emb6 (s : Fin 8) (l : Fin 1092) :
    ((cfg0.win 6).blk t).view.emb (ix3 0 s l : S1x8x1092.Idx) = (ix3 (t : Fin 32) s l : S32x8x1092.Idx) := by
  obtain ⟨e0, e1, e2⟩ := point6 t
  funext a; apply Fin.ext
  match a with
  | ⟨0, _⟩ => show win0_6.index t (0 : Fin 3) * 1 + 1 * 0 = t.val; omega
  | ⟨1, _⟩ => show win0_6.index t (1 : Fin 3) * 8 + 1 * s.val = s.val; omega
  | ⟨2, _⟩ => show win0_6.index t (2 : Fin 3) * 1092 + 1 * l.val = l.val; omega

/-- A grid point's blocks hold the numbers of its image. -/
theorem blocks_hold : Holds (imageOf m c t) (iblk m c 0 t) (iblk m c 1 t) (iblk m c 2 t) (iblk m c 3 t) (iblk m c 4 t) where
  sc s l hp k := by
    show (V m c main_v3 (((cfg0.win 0).blk t).view.emb (ix4 0 k s l : S1x21x8x1092.Idx)) : EReal) = _
    rw [emb0]; exact scores_at m c t s l hp k
  pb s l hp k := by
    show (V m c main_v7 (((cfg0.win 1).blk t).view.emb (ix4 0 k s l : S1x4x8x1092.Idx)) : EReal) = _
    rw [emb1]; exact offsets_at m c t s l hp k
  bx j k := by
    show (V m c main_arg2 (((cfg0.win 2).blk t).view.emb (ix3 0 j k : S1x20x4.Idx)) : EReal) = _
    rw [emb2, V_main_arg2]; rfl
  lab j := by
    show V m c main_v8 (((cfg0.win 3).blk t).view.emb (ix3 0 0 j : S1x1x20.Idx)) = _
    rw [emb3]; exact labels_at m c t j
  pxy s l hp k := by
    show (V m c main_v12 (((cfg0.win 4).blk t).view.emb (ix3 ⟨k, by omega⟩ s l : S8x8x1092.Idx)) : EReal) = _
    rw [emb4]; exact pxy_at m c s l hp k
  pad s l hp k := by
    show @Eq EReal (V m c main_v12 (((cfg0.win 4).blk t).view.emb (ix3 ⟨k, by omega⟩ s l : S8x8x1092.Idx))) 0
    rw [emb4]; exact pxy_pad m c s l hp k
  pc s l hp k := by
    show (V m c main_v12 (((cfg0.win 4).blk t).view.emb (ix3 ⟨k + 4, by omega⟩ s l : S8x8x1092.Idx)) : EReal) = _
    rw [emb4]; exact pc_at m c s l hp k

/-- The array of the sums of the images of `I`. -/
def sumsOf (I : Fin 32 → Image) : Vec Ideal S32x1x8 .f32 := fun i => (I (i 0)).sums (i 2)

/-- The array of the background losses of the images of `I`. -/
def negsOf (I : Fin 32 → Image) : Vec Ideal S32x8x1092 .f32 := fun i =>
  if h : place (i 1, i 2) < 8732 then (I (i 0)).neg ⟨place (i 1, i 2), h⟩ else 0

variable (ok : ∀ t, (imageOf m c t).Ok)
include ok

theorem flushed5_eq : (dats m 0 c).flushed 5 t = ((cfg0.win 5).blk t).view.read (Elt Ideal) (sumsOf (imageOf m c)) := by
  rw [flushed5]
  funext j
  obtain ⟨e, rfl⟩ : ∃ e : Fin 8, j = (ix3 0 0 e : S1x1x8.Idx) := ⟨j 2, by
    funext a
    match a with
    | ⟨0, _⟩ => exact Subsingleton.elim (α := Fin 1) _ _
    | ⟨1, _⟩ => exact Subsingleton.elim (α := Fin 1) _ _
    | ⟨2, _⟩ => rfl⟩
  show out0_5 (iblk m c 0 t) (iblk m c 1 t) (iblk m c 2 t) (iblk m c 3 t) (iblk m c 4 t) (ix3 0 0 e) =
    sumsOf (imageOf m c) (((cfg0.win 5).blk t).view.emb (ix3 0 0 e : S1x1x8.Idx))
  rw [emb5]
  exact out5_at (blocks_hold m c t) (ok t) e

theorem flushed6_eq : (dats m 0 c).flushed 6 t = ((cfg0.win 6).blk t).view.read (Elt Ideal) (negsOf (imageOf m c)) := by
  rw [flushed6]
  funext j
  obtain ⟨s, l, rfl⟩ : ∃ (s : Fin 8) (l : Fin 1092), j = (ix3 0 s l : S1x8x1092.Idx) := ⟨j 1, j 2, by
    funext a
    match a with
    | ⟨0, _⟩ => exact Subsingleton.elim (α := Fin 1) _ _
    | ⟨1, _⟩ => rfl
    | ⟨2, _⟩ => rfl⟩
  show out0_6 (iblk m c 0 t) (iblk m c 1 t) (iblk m c 2 t) (iblk m c 3 t) (iblk m c 4 t) (ix3 0 s l) =
    negsOf (imageOf m c) (((cfg0.win 6).blk t).view.emb (ix3 0 s l : S1x8x1092.Idx))
  rw [emb6]
  show _ = dite _ _ _
  split
  · next h => exact out6_at s l (blocks_hold m c t) (ok t) h
  · next h => exact out6_pad s l h

omit ok in
theorem covered5 (i : S32x1x8.Idx) : ∃ t : Fin cfg0.N, (cfg0.win 5).flush t = true ∧ i ∈ ((cfg0.win 5).blk t).view.set := by
  obtain ⟨t, e, rfl⟩ : ∃ (t : Fin cfg0.N) (e : Fin 8), i = (ix3 (t : Fin 32) 0 e : S32x1x8.Idx) := ⟨(i 0 : Fin 32), i 2, by
    funext a
    match a with
    | ⟨0, _⟩ => rfl
    | ⟨1, _⟩ => exact Subsingleton.elim (α := Fin 1) _ _
    | ⟨2, _⟩ => rfl⟩
  refine ⟨t, flush0_5 _, ?_⟩
  have h := ((cfg0.win 5).blk t).view.emb_mem_set (ix3 0 0 e : S1x1x8.Idx)
  rwa [emb5] at h

omit ok in
theorem covered6 (i : S32x8x1092.Idx) : ∃ t : Fin cfg0.N, (cfg0.win 6).flush t = true ∧ i ∈ ((cfg0.win 6).blk t).view.set := by
  obtain ⟨t, s, l, rfl⟩ : ∃ (t : Fin cfg0.N) (s : Fin 8) (l : Fin 1092), i = (ix3 (t : Fin 32) s l : S32x8x1092.Idx) :=
    ⟨(i 0 : Fin 32), i 1, i 2, by
      funext a
      match a with
      | ⟨0, _⟩ => rfl
      | ⟨1, _⟩ => rfl
      | ⟨2, _⟩ => rfl⟩
  refine ⟨t, flush0_6 _, ?_⟩
  have h := ((cfg0.win 6).blk t).view.emb_mem_set (ix3 0 s l : S1x8x1092.Idx)
  rwa [emb6] at h

/-- The first array after the run. -/
theorem final5 : (dats m 0 c).arrAt 5 cfg0.N = sumsOf (imageOf m c) :=
  (dats m 0 c).arrAt_eq_of_cover 5 (sumsOf (imageOf m c)) (fun t _ => flushed5_eq m c t ok) covered5

/-- The second array after the run. -/
theorem final6 : (dats m 0 c).arrAt 6 cfg0.N = negsOf (imageOf m c) :=
  (dats m 0 c).arrAt_eq_of_cover 6 (negsOf (imageOf m c)) (fun t _ => flushed6_eq m c t ok) covered6

omit c ok in
/-- The run with both arrays given by the images of the arguments. -/
theorem run (ok : ∀ c t, (imageOf m c t).Ok) :
    θ_run defs (onTc (τ := τ) (main (F := Ideal))) ⟨m, fun _ => 0, ρ⟩ fun r => ∀ c : Dev nD,
      r.2.mem ((c : Thread nD τ).loc main_v13_0) = sumsOf (imageOf m c)
      ∧ r.2.mem ((c : Thread nD τ).loc main_v13_1) = negsOf (imageOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c (ok c)), (h c).2.1.trans (final6 m c (ok c)), (h c).2.2⟩)
    (run_blocks m ρ)

end Cert.Multibox
end
-- ==== Proof.Precondition.lean ====
module

public import proofs.«01_k».proof.Defs
public import proofs.«01_k».proof.Proof.Gen.Pre_inputs_ok
public import proofs.«01_k».proof.Proof.Blocks
public import Idealize.ShloMosaic.Lib.ReduceAll

/-!
What the precondition says of each image: the scores are finite, the labels are classes, and the corners of the boxes
are in order.
-/

@[expose] public section
set_option maxRecDepth 16384
noncomputable section
namespace Cert.Multibox
open Idealize.ShloMosaic Idealize.ShloMosaic.TcCoe Idealize.SL.Sem

/-- A magnitude below infinity is that of a real number. -/
theorem finite_of_below (v : EReal) (h : max v (-v) < ⊤) : v ≠ ⊤ ∧ v ≠ ⊥ := by
  constructor <;> rintro rfl <;> simp at h

/-- A word from 0 to 20 is one of the twenty-one classes. -/
theorem class_of_range (w : BitVec 32) (h : IntOp.andi (IntOp.cmpi .sge w 0#32) (IntOp.cmpi .slt w 21#32) = 1#1) :
    ∃ k : Fin 21, w = BitVec.ofNat 32 k := by
  obtain ⟨lo, hi⟩ := IntOp.andi_eq_one.1 h
  have a : (0#32).sle w = true := by cases e : (0#32).sle w <;> simp [IntOp.cmpi, e] at lo ⊢
  have b : w.slt 21#32 = true := by cases e : w.slt 21#32 <;> simp [IntOp.cmpi, e] at hi ⊢
  have : w.toNat < 21 := by
    simp only [BitVec.sle_eq_decide, BitVec.slt_eq_decide, decide_eq_true_eq, BitVec.toInt_eq_toNat_cond, BitVec.toNat_ofNat] at a b
    omega
  exact ⟨⟨w.toNat, this⟩, by simp⟩

/-- A comparison of two reals that came out 1 holds. -/
theorem le_of_bit (u v : EReal) (h : FloatOps.cmpf (F := Ideal) (φ := FTy.f32) .ole u v = 1#1) : u ≤ v := by
  by_contra hn
  simp [FloatOps.cmpf, Ideal.cmp, hn] at h

theorem lt_of_bit (u v : EReal) (h : FloatOps.cmpf (F := Ideal) (φ := FTy.f32) .olt u v = 1#1) : u < v := by
  by_contra hn
  simp [FloatOps.cmpf, Ideal.cmp, hn] at h

open Cert.Pre_inputs_ok in
/-- The four parts of the precondition, element by element. -/
theorem parts (a0 : Vec Ideal S32x8732x4 .f32) (a1 : Vec Ideal S32x8732x21 .f32) (a2 : Vec Ideal S32x20x4 .f32) (a3 : Vec Ideal S32x20 .i32)
    (a4 a5 : Vec Ideal S8732x4 .f32) (h : Cert.Pre_inputs_ok.fn (F := Ideal) a0 a1 a2 a3 a4 a5 = fun _ => 1#1) :
    (∀ i, a1 i ≠ ⊤ ∧ a1 i ≠ ⊥) ∧ (∀ i, ∃ k : Fin 21, a3 i = BitVec.ofNat 32 k) ∧
      (∀ t j, Ordered fun k => a2 (ix3 t j k)) ∧ (∀ p, Ordered fun k => a4 (ix2 p k)) := by
  have : Subsingleton S_.Idx := ⟨fun x y => funext fun k => k.elim0⟩
  have e := congrFun h ix0
  unfold Cert.Pre_inputs_ok.fn fn_part1 at e
  obtain ⟨e, e4⟩ := IntOp.andi_eq_one.1 e
  obtain ⟨e, e3⟩ := IntOp.andi_eq_one.1 e
  obtain ⟨e1, e2⟩ := IntOp.andi_eq_one.1 e
  have r1 := Host.reduce_andi_all _ _ _ _ _ e1
  have r2 := Host.reduce_andi_all _ _ _ _ _ e2
  have r3 := Host.reduce_andi_all _ _ _ _ _ e3
  have r4 := Host.reduce_andi_all _ _ _ _ _ e4
  have r3' (t : Fin 32) (j : Fin 20) (k : Fin 2) : a2 (ix3 t j ⟨k, by omega⟩) ≤ a2 (ix3 t j ⟨k + 2, by omega⟩) := by
    refine le_of_bit _ _ (Eq.trans (congrArg₂ (FloatOps.cmpf (F := Ideal) (φ := FTy.f32) .ole) ?_ ?_) (r3 (ix3 t j k))) <;>
      refine congrArg a2 (funext fun a => Fin.ext ?_) <;>
      match a with
      | ⟨0, _⟩ => simp [ix3]
      | ⟨1, _⟩ => simp [ix3]
      | ⟨2, _⟩ => simp [ix3]; try omega
  have r4' (p : Fin 8732) (k : Fin 2) : a4 (ix2 p ⟨k, by omega⟩) ≤ a4 (ix2 p ⟨k + 2, by omega⟩) := by
    refine le_of_bit _ _ (Eq.trans (congrArg₂ (FloatOps.cmpf (F := Ideal) (φ := FTy.f32) .ole) ?_ ?_) (r4 (ix2 p k))) <;>
      refine congrArg a4 (funext fun a => Fin.ext ?_) <;>
      match a with
      | ⟨0, _⟩ => simp [ix2]
      | ⟨1, _⟩ => simp [ix2]; try omega
  refine ⟨fun i => ?_, fun i => class_of_range _ (r2 i), fun t j => ⟨r3' t j 0, r3' t j 1⟩, fun p => ⟨r4' p 0, r4' p 1⟩⟩
  have hb := lt_of_bit (max (a1 i) (-a1 i)) (Ideal.ofBits .f32 0x7F800000#32) (r1 i)
  refine finite_of_below _ (lt_of_lt_of_eq hb ?_)
  simp [Ideal.ofBits, Ideal.ieee]

/-- Each image of arguments that meet the precondition is one on which the kernel is right. -/
theorem ok_of_pre (m : (ℓ : Loc Cert.LossIdeal.nD Cert.LossIdeal.τ Cert.LossIdeal.sig) → Buf (Elt Ideal) ℓ)
    (h : Cert.Pre_LossIdeal_inputs_ok m) (c : Dev Cert.LossIdeal.nD) (t : Fin 32) : (imageOf m c t).Ok := by
  obtain ⟨sc, lab, bx, pxy⟩ := parts _ _ _ _ _ _ (h c)
  exact ⟨fun j => bx t j, fun p => pxy p, fun p k => sc _, fun j => lab _⟩

end Cert.Multibox
end
-- ==== Proof.RefBase.lean ====
module

public import proofs.«01_k».proof.Proof.Model
public import proofs.«01_k».proof.Proof.Gen.LossRefIdeal.Read
public import Idealize.ShloMosaic.Lib.KernelVsHost
public import Idealize.ShloMosaic.Lib.ScatterToDense.RefScatter

/-! How the reference reads: its overlaps, its maxima over an axis, its scatters of one row an image and its gathers, each at
    one position. -/

@[expose] public section
set_option maxRecDepth 16384
noncomputable section
namespace Cert.Multibox.Ref
open Idealize.ShloMosaic Cert.LossRefIdeal Cert.LossRefIdeal.Gen Cert.LossRefIdeal.Read

variable (x2 : Vec Ideal S32x20x4 .f32) (x4 : Vec Ideal S8732x4 .f32) (t : Fin 32) (j : Fin 20) (p : Fin 8732)

/-- Image `t` of the six arguments is `I`. -/
structure Reads (I : Image) (x0 : Vec Ideal S32x8732x4 .f32) (x1 : Vec Ideal S32x8732x21 .f32) (x2 : Vec Ideal S32x20x4 .f32)
    (x3 : Vec Ideal S32x20 .i32) (x4 x5 : Vec Ideal S8732x4 .f32) (t : Fin 32) : Prop where
  pb : ∀ p k, x0 (ix3 t p k) = I.pb p k
  sc : ∀ p k, x1 (ix3 t p k) = I.sc p k
  bx : ∀ j k, x2 (ix3 t j k) = I.bx j k
  lab : ∀ j, x3 (ix2 t j) = I.lab j
  pxy : ∀ p k, x4 (ix2 p k) = I.pxy p k
  pc : ∀ p k, x5 (ix2 p k) = I.pc p k

theorem negInf : Ideal.ofBits .f32 4286578688#32 = (⊥ : EReal) := by simp [Ideal.ofBits, Ideal.ieee]

theorem select_word {α : Type} (a b : BitVec 32) (x y : α) :
    Scalar.select (IntOp.cmpi .eq a b) x y = if a = b then x else y := by
  by_cases h : a = b
  · subst h; simp [Scalar.select, IntOp.cmpi]
  · rw [if_neg h]; simp [Scalar.select, IntOp.cmpi, beq_eq_false_iff_ne.2 h]

/-- A small index is not moved by the wrap for negative ones. -/
theorem wrap_small (n : ℕ) (a : BitVec 32) (h : n < 2147483648) :
    Scalar.select (IntOp.cmpi .slt (BitVec.ofNat 32 n) 0#32) a (BitVec.ofNat 32 n) = BitVec.ofNat 32 n := by
  have h1 := toInt_ofNat_small (n := n) h
  have : (BitVec.ofNat 32 n).slt 0#32 = false := by
    unfold BitVec.slt
    rw [h1, decide_eq_false_iff_not]
    simp
  unfold IntOp.cmpi
  simp only [this]
  rfl

theorem over_read : val_main_v56 (F := Ideal) x2 x4 (ix3 t j p) = iou (fun k => x2 (ix3 t j k)) (fun k => x4 (ix2 p k)) := by
  unfold iou
  pointwise [val_main_v56, val_main_v55, val_main_v54, val_main_cst_0, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_call0_v1, val_main_call0_v0, val_main_cst, val_main_v18, val_main_v17, val_main_v16, val_main_v15, val_main_v14, val_main_v13, val_main_v12, val_main_v11, val_main_v10, val_main_v9, val_main_v8, val_main_v7, val_main_v6, val_main_v5, val_main_v4, val_main_v3, val_main_v2]
  have z : id (constant (F := Ideal) S_ FTy.f32 0#32) ix0 = (0 : EReal) := Ideal.ofBits_zero .f32
  rw [z]
  simp only [max_comm (0 : EReal)]

theorem fold_objects {α : Type} (f : α → α → α) [Std.Commutative f] [Std.Associative f] (x : S32x20x8732.Idx → α) (z : S_.Idx → α) :
    Host.reduce f x z reducesTo_S32x20x8732_S32x8732_d1 h_S_ (ix2 t p) =
      Finset.fold f (z (Shape.Idx.first h_S_)) (fun j : Fin 20 => x (ix3 t j p)) Finset.univ := by
  have h : S32x20x8732.Reduces [1] S32x8732 := by decide
  rw [Host.reduce_eq_fold_single f x z _ h]
  congr 1
  funext j
  show x (h.lift (ix2 t p) j) = x (ix3 t j p)
  congr 1
  funext a
  match a with
  | ⟨0, _⟩ => rfl
  | ⟨1, _⟩ => rfl
  | ⟨2, _⟩ => rfl

theorem fold_priors {α : Type} (f : α → α → α) [Std.Commutative f] [Std.Associative f] (x : S32x20x8732.Idx → α) (z : S_.Idx → α) :
    Host.reduce f x z reducesTo_S32x20x8732_S32x20_d2 h_S_ (ix2 t j) =
      Finset.fold f (z (Shape.Idx.first h_S_)) (fun p : Fin 8732 => x (ix3 t j p)) Finset.univ := by
  have h : S32x20x8732.Reduces [2] S32x20 := by decide
  rw [Host.reduce_eq_fold_single f x z _ h]
  congr 1
  funext j
  show x (h.lift _ _) = x _
  congr 1
  funext a
  match a with
  | ⟨0, _⟩ => rfl
  | ⟨1, _⟩ => rfl
  | ⟨2, _⟩ => rfl

theorem fold_classes {α : Type} (f : α → α → α) [Std.Commutative f] [Std.Associative f] (x : S32x8732x21.Idx → α) (z : S_.Idx → α) :
    Host.reduce f x z reducesTo_S32x8732x21_S32x8732_d2 h_S_ (ix2 t p) =
      Finset.fold f (z (Shape.Idx.first h_S_)) (fun k : Fin 21 => x (ix3 t p k)) Finset.univ := by
  have h : S32x8732x21.Reduces [2] S32x8732 := by decide
  rw [Host.reduce_eq_fold_single f x z _ h]
  congr 1
  funext j
  show x (h.lift _ _) = x _
  congr 1
  funext a
  match a with
  | ⟨0, _⟩ => rfl
  | ⟨1, _⟩ => rfl
  | ⟨2, _⟩ => rfl

/-- The last hit over the naturals below `n`, and over a list of them. -/
theorem hit_list {α : Type} (n : ℕ) (P : ℕ → Prop) [DecidablePred P] (val : ℕ → α) (a : α) (m : Fin n → Prop) [DecidablePred m]
    (v : Fin n → α) (hm : ∀ j : Fin n, P j ↔ m j) (hv : ∀ j : Fin n, val j = v j) :
    LaneScatter.lastHit P val a n = lastHit m v a (List.finRange n) := by
  induction n with
  | zero => rfl
  | succ n ih =>
    have h := ih (fun j => m j.castSucc) (fun j => v j.castSucc) (fun j => hm j.castSucc) (fun j => hv j.castSucc)
    have e := hm (Fin.last n)
    have e' := hv (Fin.last n)
    simp only [Fin.val_last] at e e'
    show (if P n then val n else LaneScatter.lastHit P val a n) = _
    rw [h, List.finRange_succ_last]
    unfold lastHit
    rw [List.foldl_append, List.foldl_map]
    show _ = if m (Fin.last n) then v (Fin.last n) else _
    rw [e']
    exact if_congr e rfl rfl

theorem objs_list : objs = List.finRange 20 := by decide

/-- A scatter that sets, one row of twenty words an image. -/
theorem scatter_read {α : Type} (x0 : S32x8732.Idx → α) (idx : Vec Ideal S32x20x2 .i32) (upd : S32x20.Idx → α) (own : Fin 20 → Fin 8732)
    (v : Fin 20 → α)
    (h0 : ∀ t j, idx (ix3 t j 0) = BitVec.ofNat 32 t) (h1 : ∀ j, idx (ix3 t j 1) = BitVec.ofNat 32 (own j))
    (hv : ∀ j, upd (ix2 t j) = v j) :
    Host.scatter scatter_S32x8732_S32x20x2_S32x20_n_01_01_2 (fun _ b => b) x0 idx upd (ix2 t p) =
      lastHit (fun j => own j = p) v (x0 (ix2 t p)) objs := by
  have h := ScatterToDense.scatter_eq_GS (T := 32) (C := 8732) (K := 20) scatter_S32x8732_S32x20x2_S32x20_n_01_01_2 rfl rfl rfl
    (by decide) (by decide) x0 idx upd
    (fun t k => if h : k < 20 then idx (ix3 t (⟨k, h⟩ : Fin 20) 1) else 0#32)
    (fun t k => if h : k < 20 then upd (ix2 t (⟨k, h⟩ : Fin 20)) else upd (ix2 t 0))
    h0 (fun i k => by rw [dif_pos k.isLt]; rfl) (fun i k => by rw [dif_pos k.isLt]; rfl) t p
  refine h.trans ?_
  rw [objs_list]
  refine hit_list 20 _ _ _ _ _ ?_ ?_
  · intro j
    show p.val = (if h : j.val < 20 then idx (ix3 t (⟨j.val, h⟩ : Fin 20) 1) else 0#32).toNat ↔ _
    rw [dif_pos j.isLt]
    show p.val = (idx (ix3 t j 1)).toNat ↔ _
    rw [h1, BitVec.toNat_ofNat, Nat.mod_eq_of_lt (by have := (own j).isLt; omega), Fin.ext_iff]
    exact eq_comm
  · intro j
    show (if h : j.val < 20 then upd (ix2 t (⟨j.val, h⟩ : Fin 20)) else _) = _
    rw [dif_pos j.isLt]
    exact hv j

theorem word_toNat (n B : ℕ) (h : n < B) (hB : B ≤ 2147483648) : min (BitVec.ofNat 32 n).toInt.toNat (B - 1) = n := by
  rw [toInt_ofNat_small (by omega)]
  simp only [Int.toNat_natCast]
  omega

/-- The label of the object that a pair of words names. -/
theorem gather_label (x : Vec Ideal S32x20 .i32) (idx : Vec Ideal S32x8732x2 .i32)
    (h0 : idx (ix3 t p 0) = BitVec.ofNat 32 t) (h1 : idx (ix3 t p 1) = BitVec.ofNat 32 j) :
    Host.gather gather_S32x20_S32x8732x2_S32x8732_n_01_n_n_01_2_11 x idx (ix2 t p) = x (ix2 t j) := by
  unfold Host.gather
  congr 1
  funext a
  apply Fin.ext
  match a with
  | ⟨0, _⟩ =>
    have hs : gather_S32x20_S32x8732x2_S32x8732_n_01_n_n_01_2_11.siIdx (ix2 t p) ⟨0, by decide⟩ = ix3 t p 0 := by
      funext b
      match b with
      | ⟨0, _⟩ => rfl
      | ⟨1, _⟩ => rfl
      | ⟨2, _⟩ => rfl
    show min (idx (gather_S32x20_S32x8732x2_S32x8732_n_01_n_n_01_2_11.siIdx (ix2 t p) ⟨0, by decide⟩)).toInt.toNat (32 - 1) + 0 + 0 = t.val
    rw [hs, h0]; exact word_toNat _ 32 t.isLt (by decide)
  | ⟨1, _⟩ =>
    have hs : gather_S32x20_S32x8732x2_S32x8732_n_01_n_n_01_2_11.siIdx (ix2 t p) ⟨1, by decide⟩ = ix3 t p 1 := by
      funext b
      match b with
      | ⟨0, _⟩ => rfl
      | ⟨1, _⟩ => rfl
      | ⟨2, _⟩ => rfl
    show min (idx (gather_S32x20_S32x8732x2_S32x8732_n_01_n_n_01_2_11.siIdx (ix2 t p) ⟨1, by decide⟩)).toInt.toNat (20 - 1) + 0 + 0 = j.val
    rw [hs, h1]; exact word_toNat _ 20 j.isLt (by decide)

theorem gather_box (x : Vec Ideal S32x20x4 .f32) (idx : Vec Ideal S32x8732x2 .i32) (c : Fin 4)
    (h0 : idx (ix3 t p 0) = BitVec.ofNat 32 t) (h1 : idx (ix3 t p 1) = BitVec.ofNat 32 j) :
    Host.gather gather_S32x20x4_S32x8732x2_S32x8732x4_2_01_n_n_01_2_114 x idx (ix3 t p c) = x (ix3 t j c) := by
  unfold Host.gather
  congr 1
  funext a
  apply Fin.ext
  match a with
  | ⟨0, _⟩ =>
    have hs : gather_S32x20x4_S32x8732x2_S32x8732x4_2_01_n_n_01_2_114.siIdx (ix3 t p c) ⟨0, by decide⟩ = ix3 t p 0 := by
      funext b
      match b with
      | ⟨0, _⟩ => rfl
      | ⟨1, _⟩ => rfl
      | ⟨2, _⟩ => rfl
    show min (idx (gather_S32x20x4_S32x8732x2_S32x8732x4_2_01_n_n_01_2_114.siIdx (ix3 t p c) ⟨0, by decide⟩)).toInt.toNat (32 - 1) + 0 + 0 = t.val
    rw [hs, h0]; exact word_toNat _ 32 t.isLt (by decide)
  | ⟨1, _⟩ =>
    have hs : gather_S32x20x4_S32x8732x2_S32x8732x4_2_01_n_n_01_2_114.siIdx (ix3 t p c) ⟨1, by decide⟩ = ix3 t p 1 := by
      funext b
      match b with
      | ⟨0, _⟩ => rfl
      | ⟨1, _⟩ => rfl
      | ⟨2, _⟩ => rfl
    show min (idx (gather_S32x20x4_S32x8732x2_S32x8732x4_2_01_n_n_01_2_114.siIdx (ix3 t p c) ⟨1, by decide⟩)).toInt.toNat (20 - 1) + 0 + 0 = j.val
    rw [hs, h1]; exact word_toNat _ 20 j.isLt (by decide)
  | ⟨2, _⟩ =>
    show 0 + 0 + c.val = c.val
    omega

theorem gather_score (x : Vec Ideal S32x8732x21 .f32) (idx : Vec Ideal S32x8732x1x1 .i32) (k : Fin 21)
    (h : idx (ix4 t p 0 0) = BitVec.ofNat 32 k) :
    Host.gather gather_S32x8732x21_S32x8732x1x1_S32x8732x1_n_2_01_01_2_3_111 x idx (ix3 t p 0) = x (ix3 t p k) := by
  unfold Host.gather
  congr 1
  funext a
  apply Fin.ext
  match a with
  | ⟨0, _⟩ => show 0 + t.val + 0 = t.val; omega
  | ⟨1, _⟩ => show 0 + p.val + 0 = p.val; omega
  | ⟨2, _⟩ =>
    have hs : gather_S32x8732x21_S32x8732x1x1_S32x8732x1_n_2_01_01_2_3_111.siIdx (ix3 t p 0) ⟨0, by decide⟩ = ix4 t p 0 0 := by
      funext b
      match b with
      | ⟨0, _⟩ => rfl
      | ⟨1, _⟩ => rfl
      | ⟨2, _⟩ => rfl
      | ⟨3, _⟩ => rfl
    show min (idx (gather_S32x8732x21_S32x8732x1x1_S32x8732x1_n_2_01_01_2_3_111.siIdx (ix3 t p 0) ⟨0, by decide⟩)).toInt.toNat (21 - 1) + 0 + 0 = k.val
    rw [hs, h]; exact word_toNat _ 21 k.isLt (by decide)

theorem cat_left {α : Type} {A B C D E : ℕ} (x : (⟨3, ![A, B, C]⟩ : Shape).Idx → α) (y : (⟨3, ![A, B, D]⟩ : Shape).Idx → α)
    (h : Shape.Concatenates [⟨3, ![A, B, C]⟩, ⟨3, ![A, B, D]⟩] ⟨3, ![A, B, E]⟩ 2) (a : Fin A) (b : Fin B) (c : Fin C) (e : Fin E) (he : c.val = e.val) :
    concatenate (⟨3, ![A, B, E]⟩ : Shape) 2 [⟨⟨3, ![A, B, C]⟩, x⟩, ⟨⟨3, ![A, B, D]⟩, y⟩] h (ix3 a b e) = x (ix3 a b c) := by
  refine concatenate_pair_apply_left (t := ⟨3, ![A, B, E]⟩) (s₁ := ⟨3, ![A, B, C]⟩) (s₂ := ⟨3, ![A, B, D]⟩) (2 : Fin 3) _ _ _ _ rfl (ix3 a b c) ?_
  intro k
  match k with
  | ⟨0, _⟩ => rfl
  | ⟨1, _⟩ => rfl
  | ⟨2, _⟩ => exact he

theorem cat_right {α : Type} {A B C D E : ℕ} (x : (⟨3, ![A, B, C]⟩ : Shape).Idx → α) (y : (⟨3, ![A, B, D]⟩ : Shape).Idx → α)
    (h : Shape.Concatenates [⟨3, ![A, B, C]⟩, ⟨3, ![A, B, D]⟩] ⟨3, ![A, B, E]⟩ 2) (a : Fin A) (b : Fin B) (c : Fin D) (e : Fin E) (he : c.val + C = e.val) :
    concatenate (⟨3, ![A, B, E]⟩ : Shape) 2 [⟨⟨3, ![A, B, C]⟩, x⟩, ⟨⟨3, ![A, B, D]⟩, y⟩] h (ix3 a b e) = y (ix3 a b c) := by
  refine concatenate_pair_apply_right (t := ⟨3, ![A, B, E]⟩) (s₁ := ⟨3, ![A, B, C]⟩) (s₂ := ⟨3, ![A, B, D]⟩) (2 : Fin 3) _ _ _ _ rfl rfl (ix3 a b c) ?_ ?_
  · intro k hk
    match k with
    | ⟨0, _⟩ => rfl
    | ⟨1, _⟩ => rfl
    | ⟨2, _⟩ => exact absurd rfl hk
  · exact he

end Cert.Multibox.Ref
end
-- ==== Proof.RefMatch.lean ====
module

public import proofs.«01_k».proof.Proof.RefBase
public import proofs.«01_k».proof.Proof.Gen.LossRefIdeal.Read

/-! The reference's matching at one prior: the overlaps, the object of every prior, the class and the box that go with it. -/

@[expose] public section
set_option maxRecDepth 16384
noncomputable section
namespace Cert.Multibox.Ref
open Idealize.ShloMosaic Cert.LossRefIdeal Cert.LossRefIdeal.Gen Cert.LossRefIdeal.Read

variable (I : Image) (x0 : Vec Ideal S32x8732x4 .f32) (x1 : Vec Ideal S32x8732x21 .f32) (x2 : Vec Ideal S32x20x4 .f32)
    (x3 : Vec Ideal S32x20 .i32) (x4 x5 : Vec Ideal S8732x4 .f32) (t : Fin 32) (j : Fin 20) (p : Fin 8732)
theorem select_bool {α : Type} (q : Prop) [Decidable q] (x y : α) : Scalar.select (BitVec.ofBool (decide q)) x y = if q then x else y := by
  by_cases hq : q <;> simp [Scalar.select, hq]

theorem word_image : val_main_v86 (F := Ideal) x2 x4 (ix3 t j 0) = BitVec.ofNat 32 t := by
  refine (cat_left (E := 2) (val_main_v84 (F := Ideal)) (val_main_v85 (F := Ideal) x2 x4) _ t j 0 0 rfl).trans ?_
  pointwise [val_main_v84, val_main_v83, val_main_v77, val_main_v76, val_main_v75, val_main_v74, val_main_v73, val_main_v1, val_main_v0, val_main_c_7, val_main_c_8]
  exact wrap_small _ _ (by have := t.isLt; omega)

theorem word_own (n : ℕ) (hn : n < 2147483648) (h : val_main_v71 (F := Ideal) x2 x4 (ix2 t j) = BitVec.ofNat 32 n) :
    val_main_v86 (F := Ideal) x2 x4 (ix3 t j 1) = BitVec.ofNat 32 n := by
  refine (cat_right _ _ _ t j (0 : Fin 1) 1 rfl).trans ?_
  have : val_main_v85 (F := Ideal) x2 x4 (ix3 t j 0) = Scalar.select (IntOp.cmpi .slt (val_main_v71 (F := Ideal) x2 x4 (ix2 t j)) 0#32)
      (IntOp.addi (val_main_v71 (F := Ideal) x2 x4 (ix2 t j)) 8732#32) (val_main_v71 (F := Ideal) x2 x4 (ix2 t j)) := by
    pointwise [val_main_v85, val_main_v82, val_main_v81, val_main_v80, val_main_v79, val_main_v78, val_main_c_9, val_main_c_10]
  rw [this, h]
  exact wrap_small _ _ hn

theorem word_image' : val_main_v118 (F := Ideal) x2 x4 (ix3 t p 0) = BitVec.ofNat 32 t := by
  refine (cat_left (E := 2) (val_main_v116 (F := Ideal)) (val_main_v117 (F := Ideal) x2 x4) _ t p 0 0 rfl).trans ?_
  pointwise [val_main_v116, val_main_v115, val_main_v109, val_main_v108, val_main_v107, val_main_v106, val_main_v105, val_main_v1, val_main_v0, val_main_c_16, val_main_c_17]
  exact wrap_small _ _ (by have := t.isLt; omega)

theorem word_obj (n : ℕ) (hn : n < 2147483648) (h : val_main_v88 (F := Ideal) x2 x4 (ix2 t p) = BitVec.ofNat 32 n) :
    val_main_v118 (F := Ideal) x2 x4 (ix3 t p 1) = BitVec.ofNat 32 n := by
  refine (cat_right _ _ _ t p (0 : Fin 1) 1 rfl).trans ?_
  have : val_main_v117 (F := Ideal) x2 x4 (ix3 t p 0) = Scalar.select (IntOp.cmpi .slt (val_main_v88 (F := Ideal) x2 x4 (ix2 t p)) 0#32)
      (IntOp.addi (val_main_v88 (F := Ideal) x2 x4 (ix2 t p)) 20#32) (val_main_v88 (F := Ideal) x2 x4 (ix2 t p)) := by
    pointwise [val_main_v117, val_main_v114, val_main_v113, val_main_v112, val_main_v111, val_main_v110, val_main_c_18, val_main_c_19]
  rw [this, h]
  exact wrap_small _ _ hn

/-- The second scatter and the second gather go by the same words as the first. -/
theorem words_again : val_main_v102 (F := Ideal) x2 x4 = val_main_v86 (F := Ideal) x2 x4 := rfl
theorem words_box : val_main_v136 (F := Ideal) x2 x4 = val_main_v118 (F := Ideal) x2 x4 := rfl
variable {I x0 x1 x2 x3 x4 x5 t} (h : Reads I x0 x1 x2 x3 x4 x5 t)
include h

theorem ov_read : val_main_v56 (F := Ideal) x2 x4 (ix3 t j p) = I.ov j p := by
  rw [over_read]
  unfold Image.ov
  congr 1
  · funext k; exact h.bx j k
  · funext k; exact h.pxy p k

theorem top_read : val_main_v57 (F := Ideal) x2 x4 (ix2 t p) = I.ov (firstMax fun j => I.ov j p) p := by
  refine (fold_objects t p (max : EReal → EReal → EReal) _ _).trans ?_
  show Finset.fold max (Ideal.ofBits .f32 4286578688#32) _ _ = _
  rw [negInf]
  simp only [ov_read _ _ h]
  exact fold_max_firstMax (fun j => I.ov j p)

theorem top_read' : val_main_v59 (F := Ideal) x2 x4 (ix2 t p) = Finset.fold max ⊥ (fun j => I.ov j p) Finset.univ := by
  refine (fold_objects t p (max : EReal → EReal → EReal) _ _).trans ?_
  show Finset.fold max (Ideal.ofBits .f32 4286578688#32) _ _ = _
  rw [negInf]
  simp only [ov_read _ _ h]

theorem far_read : val_main_v66 (F := Ideal) x2 x4 (ix2 t j) = Finset.fold max ⊥ (I.ov j) Finset.univ := by
  refine (fold_priors t j (max : EReal → EReal → EReal) _ _).trans ?_
  show Finset.fold max (Ideal.ofBits .f32 4286578688#32) _ _ = _
  rw [negInf]
  simp only [ov_read _ _ h]

theorem first_obj : val_main_v64 (F := Ideal) x2 x4 (ix2 t p) = BitVec.ofNat 32 (firstMax fun j => I.ov j p) := by
  refine (fold_objects t p IntOp.minsi _ _).trans ?_
  have e : ∀ j, val_main_v63 (F := Ideal) x2 x4 (ix3 t j p) =
      if I.ov j p = Finset.fold max ⊥ (fun j => I.ov j p) Finset.univ then BitVec.ofNat 32 j else BitVec.ofNat 32 20 := by
    intro j
    rw [← ov_read j p h, ← top_read' p h]
    have : val_main_v63 (F := Ideal) x2 x4 (ix3 t j p) = Scalar.select (BitVec.ofBool (decide (val_main_v56 (F := Ideal) x2 x4 (ix3 t j p) = val_main_v59 (F := Ideal) x2 x4 (ix2 t p)))) (BitVec.ofNat 32 j) (BitVec.ofNat 32 20) := by
      pointwise [val_main_v63, val_main_v62, val_main_v61, val_main_v60, val_main_v58, val_main_call1_v1, val_main_call1_v0, val_main_c]
      rfl
    rw [this]
    exact select_bool _ _ _
  simp only [e]
  exact fold_minsi_firstMax (fun j => I.ov j p) (by decide)

theorem own_read : val_main_v71 (F := Ideal) x2 x4 (ix2 t j) = BitVec.ofNat 32 (I.own j) := by
  refine (fold_priors t j IntOp.minsi _ _).trans ?_
  have e : ∀ p, val_main_v70 (F := Ideal) x2 x4 (ix3 t j p) =
      if I.ov j p = Finset.fold max ⊥ (I.ov j) Finset.univ then BitVec.ofNat 32 p else BitVec.ofNat 32 8732 := by
    intro p
    rw [← ov_read j p h, ← far_read j h]
    have : val_main_v70 (F := Ideal) x2 x4 (ix3 t j p) = Scalar.select (BitVec.ofBool (decide (val_main_v56 (F := Ideal) x2 x4 (ix3 t j p) = val_main_v66 (F := Ideal) x2 x4 (ix2 t j)))) (BitVec.ofNat 32 p) (BitVec.ofNat 32 8732) := by
      pointwise [val_main_v70, val_main_v69, val_main_v68, val_main_v67, val_main_v65, val_main_call2_v1, val_main_call2_v0, val_main_c_5]
      rfl
    rw [this]
    exact select_bool _ _ _
  simp only [e]
  exact fold_minsi_firstMax (I.ov j) (by decide)
end Cert.Multibox.Ref
end
-- ==== Proof.RefCls.lean ====
module

public import proofs.«01_k».proof.Proof.RefMatch
public import proofs.«01_k».proof.Proof.Gen.LossRefIdeal.Read

/-! The object, the class and the box of every prior, as the reference's scatters and gathers give them. -/

@[expose] public section
set_option maxRecDepth 16384
noncomputable section
namespace Cert.Multibox.Ref
open Idealize.ShloMosaic Cert.LossRefIdeal Cert.LossRefIdeal.Gen Cert.LossRefIdeal.Read

variable (I : Image) (x0 : Vec Ideal S32x8732x4 .f32) (x1 : Vec Ideal S32x8732x21 .f32) (x2 : Vec Ideal S32x20x4 .f32)
    (x3 : Vec Ideal S32x20 .i32) (x4 x5 : Vec Ideal S8732x4 .f32) (t : Fin 32) (j : Fin 20) (p : Fin 8732)
variable {I x0 x1 x2 x3 x4 x5 t} (h : Reads I x0 x1 x2 x3 x4 x5 t)
include h

theorem obj_word : val_main_v88 (F := Ideal) x2 x4 (ix2 t p) = BitVec.ofNat 32 (I.obj p) := by
  refine (scatter_read t p (val_main_v64 (F := Ideal) x2 x4) (val_main_v86 (F := Ideal) x2 x4) (val_main_v87 (F := Ideal)) I.own
    (fun j => BitVec.ofNat 32 j) (fun t j => word_image x2 x4 t j)
    (fun j => word_own x2 x4 t j _ (by have := (I.own j).isLt; omega) (own_read j h)) (fun j => ?_)).trans ?_
  · pointwise [val_main_v87, val_main_v72]
  · rw [first_obj p h]
    exact (lastHit_map (fun j => I.own j = p) id (firstMax fun j => I.ov j p) objs (fun j : Fin 20 => BitVec.ofNat 32 j)).symm

theorem best_read : val_main_v104 (F := Ideal) x2 x4 (ix2 t p) = I.best p := by
  unfold val_main_v104
  rw [words_again]
  refine (scatter_read t p (val_main_v57 (F := Ideal) x2 x4) (val_main_v86 (F := Ideal) x2 x4) (val_main_v103 (F := Ideal)) I.own
    (fun _ => (1 : EReal)) (fun t j => word_image x2 x4 t j)
    (fun j => word_own x2 x4 t j _ (by have := (I.own j).isLt; omega) (own_read j h)) (fun j => ?_)).trans ?_
  · pointwise [val_main_v103, val_main_cst_15]
  · rw [top_read p h]
    rfl

theorem label_read : val_main_v119 (F := Ideal) x2 x3 x4 (ix2 t p) = I.lab (I.obj p) := by
  refine (gather_label t (I.obj p) p x3 (val_main_v118 (F := Ideal) x2 x4) (word_image' x2 x4 t p)
    (word_obj x2 x4 t p _ (by have := (I.obj p).isLt; omega) (obj_word p h))).trans ?_
  exact h.lab _

theorem box_read (c : Fin 4) : val_main_v137 (F := Ideal) x2 x4 (ix3 t p c) = I.bx (I.obj p) c := by
  unfold val_main_v137
  rw [words_box]
  refine (gather_box t (I.obj p) p x2 (val_main_v118 (F := Ideal) x2 x4) c (word_image' x2 x4 t p)
    (word_obj x2 x4 t p _ (by have := (I.obj p).isLt; omega) (obj_word p h))).trans ?_
  exact h.bx _ _

theorem cls_read : val_main_v122 (F := Ideal) x2 x3 x4 (ix2 t p) = I.cls p := by
  rw [val_main_v122_apply, val_main_v121_apply, best_read p h, label_read p h]
  exact select_bool (I.best p < half) 0#32 (I.lab (I.obj p))
end Cert.Multibox.Ref
end
-- ==== Proof.RefCE.lean ====
module

public import proofs.«01_k».proof.Proof.RefBase
public import proofs.«01_k».proof.Proof.Gen.LossRefIdeal.Read

/-! The cross entropy of a prior as the reference computes it: the logarithm of the share of the class that is taken. -/

@[expose] public section
set_option maxRecDepth 16384
noncomputable section
namespace Cert.Multibox.Ref
open Idealize.ShloMosaic Cert.LossRefIdeal Cert.LossRefIdeal.Gen Cert.LossRefIdeal.Read

variable (I : Image) (x0 : Vec Ideal S32x8732x4 .f32) (x1 : Vec Ideal S32x8732x21 .f32) (x2 : Vec Ideal S32x20x4 .f32)
    (x3 : Vec Ideal S32x20 .i32) (x4 x5 : Vec Ideal S8732x4 .f32) (t : Fin 32) (j : Fin 20) (p : Fin 8732)

/-- The logarithm of the share of a class, with the largest score `m` taken away first. -/
theorem log_one (k : Fin 21) (m : EReal) (hm : val_main_call5_v2 (F := Ideal) x1 (ix2 t p) = m) :
    val_main_v187 (F := Ideal) x1 (ix3 t p k) = (x1 (ix3 t p k) - m) - Ideal.log (val_main_call5_v7 (F := Ideal) x1 (ix2 t p)) := by
  pointwise [val_main_v187, val_main_call5_v5, val_main_call5_v10, val_main_call5_v9, val_main_call5_v8, val_main_call5_v4, val_main_call5_v3]
  rw [hm]

theorem exp_sum (m : EReal) (hm : val_main_call5_v2 (F := Ideal) x1 (ix2 t p) = m) :
    val_main_call5_v7 (F := Ideal) x1 (ix2 t p) = ∑ k : Fin 21, Ideal.exp (x1 (ix3 t p k) - m) := by
  pointwise [val_main_call5_v7, val_main_call5_v6, val_main_call5_cst_1, val_main_call5_v5, val_main_call5_v4, val_main_call5_v3]
  rw [hm]

theorem top_fold : val_main_call5_v0 (F := Ideal) x1 (ix2 t p) = top (fun k => x1 (ix3 t p k)) := by
  unfold top
  rw [← negInf]
  exact fold_classes t p (max : EReal → EReal → EReal) x1 (val_main_call5_cst (F := Ideal))

theorem top_bot : val_main_call5_v2 (F := Ideal) x1 (ix2 t p) =
    max (Ideal.ofBits .f32 4286578688#32) (val_main_call5_v0 (F := Ideal) x1 (ix2 t p)) := by
  rw [val_main_call5_v2_apply, val_main_call5_v1_apply]
  rfl

theorem top_classes : val_main_call5_v2 (F := Ideal) x1 (ix2 t p) = top (fun k => x1 (ix3 t p k)) := by
  rw [top_bot, top_fold, negInf]
  exact bot_sup_eq _

/-- The conjunction along an axis of one. -/
theorem fold_unit (x : Vec Ideal S32x8732x1x1 .i1) (z : Vec Ideal S_ .i1) :
    Host.reduce IntOp.andi x z reducesTo_S32x8732x1x1_S32x8732x1_d3 h_S_ (ix3 t p 0) =
      IntOp.andi (x (ix4 t p 0 0)) (z (Shape.Idx.first h_S_)) := by
  have h : S32x8732x1x1.Reduces [3] S32x8732x1 := by decide
  rw [Host.reduce_eq_fold_single IntOp.andi x z _ h]
  have : (x ∘ h.lift (ix3 t p 0)) = fun _ => x (ix4 t p 0 0) := by
    funext j
    show x _ = x _
    congr 1
    funext a
    match a with
    | ⟨0, _⟩ => rfl
    | ⟨1, _⟩ => rfl
    | ⟨2, _⟩ => rfl
    | ⟨3, _⟩ => exact Subsingleton.elim (α := Fin 1) _ _
  rw [this]
  show Finset.fold IntOp.andi _ (fun _ => x (ix4 t p 0 0)) (Finset.univ : Finset (Fin 1)) = _
  rw [show (Finset.univ : Finset (Fin 1)) = {0} from rfl, Finset.fold_singleton]

theorem in_range (k : Fin 21) :
    IntOp.andi (IntOp.andi (IntOp.cmpi .sge (BitVec.ofNat 32 k) 0#32) (IntOp.cmpi .sle (BitVec.ofNat 32 k) 20#32)) 1#1 = 1#1 := by
  revert k
  decide

/-- The entry that a class in range takes out of the logarithms. -/
theorem picked (k : Fin 21) (h : val_main_v122 (F := Ideal) x2 x3 x4 (ix2 t p) = BitVec.ofNat 32 k) :
    val_main_v191 (F := Ideal) x1 x2 x3 x4 (ix2 t p) = -val_main_v187 (F := Ideal) x1 (ix3 t p k) := by
  have w : val_main_call6_v5 (F := Ideal) x2 x3 x4 (ix4 t p 0 0) = BitVec.ofNat 32 k := by
    have : val_main_call6_v5 (F := Ideal) x2 x3 x4 (ix4 t p 0 0) =
        Scalar.select (IntOp.cmpi .slt (val_main_v122 (F := Ideal) x2 x3 x4 (ix2 t p)) 0#32)
          (IntOp.addi (val_main_v122 (F := Ideal) x2 x3 x4 (ix2 t p)) 21#32) (val_main_v122 (F := Ideal) x2 x3 x4 (ix2 t p)) := by
      pointwise [val_main_call6_v5, val_main_call6_v4, val_main_call6_v3, val_main_call6_v2, val_main_call6_v1, val_main_call6_v0,
        val_main_v188, val_main_call6_c, val_main_call6_c_0]
    rw [this, h]
    exact wrap_small _ _ (by have := k.isLt; omega)
  have b : val_main_call6_v12 (F := Ideal) x2 x3 x4 (ix3 t p 0) = 1#1 := by
    refine (fold_unit t p (val_main_call6_v11 (F := Ideal) x2 x3 x4) (val_main_call6_c_3 (F := Ideal))).trans ?_
    have : val_main_call6_v11 (F := Ideal) x2 x3 x4 (ix4 t p 0 0) =
        IntOp.andi (IntOp.cmpi .sge (val_main_call6_v5 (F := Ideal) x2 x3 x4 (ix4 t p 0 0)) 0#32)
          (IntOp.cmpi .sle (val_main_call6_v5 (F := Ideal) x2 x3 x4 (ix4 t p 0 0)) 20#32) := by
      pointwise [val_main_call6_v11, val_main_call6_v10, val_main_call6_v9, val_main_call6_v8, val_main_call6_v7, val_main_call6_v6,
        val_main_call6_c_1, val_main_call6_c_2]
    rw [this, w]
    exact in_range k
  have g : val_main_call6_v13 (F := Ideal) x1 x2 x3 x4 (ix3 t p 0) = val_main_v187 (F := Ideal) x1 (ix3 t p k) :=
    gather_score t p (val_main_v187 (F := Ideal) x1) (val_main_call6_v5 (F := Ideal) x2 x3 x4) k w
  have s : val_main_v189 (F := Ideal) x1 x2 x3 x4 (ix3 t p 0) = val_main_v187 (F := Ideal) x1 (ix3 t p k) := by
    rw [val_main_v189_apply, b, g]
    rfl
  rw [← s]
  pointwise [val_main_v191, val_main_v190]

/-- The cross entropy of finite scores does not depend on how it is written. -/
theorem entropy (v : Fin 21 → EReal) (hv : ∀ k, v k ≠ ⊤ ∧ v k ≠ ⊥) (k : Fin 21) :
    -((v k - top v) - Ideal.log (∑ j, Ideal.exp (v j - top v))) = lse v - pick v (BitVec.ofNat 32 k) := by
  have hp : pick v (BitVec.ofNat 32 k) = v k := by
    unfold pick
    have hinj : ∀ a b : Fin 21, (BitVec.ofNat 32 a = BitVec.ofNat 32 b) ↔ a = b := by decide
    simp only [hinj]
    rw [Finset.sum_ite_eq]
    simp
  have ht : top v ≠ ⊤ ∧ top v ≠ ⊥ := by
    have : top v = v (firstMax v) := fold_max_firstMax v
    rw [this]
    exact hv _
  rw [hp]
  unfold lse
  obtain ⟨a, ha⟩ : ∃ a : ℝ, (a : EReal) = v k := ⟨_, EReal.coe_toReal (hv k).1 (hv k).2⟩
  obtain ⟨b, hb⟩ : ∃ b : ℝ, (b : EReal) = top v := ⟨_, EReal.coe_toReal ht.1 ht.2⟩
  rw [← ha, ← hb]
  generalize Ideal.log (∑ j, Ideal.exp (v j - (b : EReal))) = L
  induction L with
  | bot => rfl
  | top => rfl
  | coe l => norm_cast; ring

theorem ce_read (v : Fin 21 → EReal) (hv : ∀ k, v k ≠ ⊤ ∧ v k ≠ ⊥) (hx : ∀ k, x1 (ix3 t p k) = v k) (k : Fin 21)
    (h : val_main_v122 (F := Ideal) x2 x3 x4 (ix2 t p) = BitVec.ofNat 32 k) :
    val_main_v191 (F := Ideal) x1 x2 x3 x4 (ix2 t p) = lse v - pick v (BitVec.ofNat 32 k) := by
  have e := top_classes x1 t p
  simp only [hx] at e
  rw [picked x1 x2 x3 x4 t p k h, log_one x1 t p k _ e, exp_sum x1 t p _ e]
  simp only [hx]
  exact entropy v hv k

end Cert.Multibox.Ref
end
-- ==== Proof.RefTarget.lean ====
module

public import proofs.«01_k».proof.Proof.RefBase
public import proofs.«01_k».proof.Proof.Gen.LossRefIdeal.Read

/-! The offsets that the reference gives a prior for its box, and the smooth loss of the difference. -/

@[expose] public section
set_option maxRecDepth 16384
noncomputable section
namespace Cert.Multibox.Ref
open Idealize.ShloMosaic Cert.LossRefIdeal Cert.LossRefIdeal.Gen Cert.LossRefIdeal.Read

variable (I : Image) (x0 : Vec Ideal S32x8732x4 .f32) (x1 : Vec Ideal S32x8732x21 .f32) (x2 : Vec Ideal S32x20x4 .f32)
    (x3 : Vec Ideal S32x20 .i32) (x4 x5 : Vec Ideal S8732x4 .f32) (t : Fin 32) (j : Fin 20) (p : Fin 8732)

/-- Over the reals the programs' constants two and ten are themselves. -/
theorem two_eq : Ideal.ofBits .f32 1073741824#32 = ((2 : ℝ) : EReal) := by
  simp [Ideal.ofBits, Ideal.ieee]
  rw [← EReal.coe_mul]
  norm_num

theorem ten_eq : Ideal.ofBits .f32 1092616192#32 = ((10 : ℝ) : EReal) := by
  simp [Ideal.ofBits, Ideal.ieee]
  rw [← EReal.coe_mul]
  norm_num

theorem half_eq : half = ((1 / 2 : ℝ) : EReal) := by
  unfold half
  simp [Ideal.ofBits, Ideal.ieee]
  rw [← EReal.coe_mul]
  norm_num

theorem halve (x : EReal) : Ideal.div x (Ideal.ofBits .f32 1073741824#32) = x * half := by
  rw [two_eq, half_eq, Ideal.div_coe (by norm_num)]

theorem tenth (x : EReal) : Ideal.div x (Ideal.ofBits .f32 1092616192#32) = x * ((1 / 10 : ℝ) : EReal) := by
  rw [ten_eq, Ideal.div_coe (by norm_num)]

/-- A statement of a coordinate and of its two places among four. -/
theorem both (P : Fin 2 → Fin 4 → Fin 4 → Prop) (h0 : P 0 0 2) (h1 : P 1 1 3) (d : Fin 2) (e f : Fin 4) (he : d.val = e.val)
    (hf : d.val + 2 = f.val) : P d e f := by
  match d, he, hf with
  | ⟨0, _⟩, he, hf => obtain rfl : e = 0 := Fin.ext he.symm; obtain rfl : f = 2 := Fin.ext hf.symm; exact h0
  | ⟨1, _⟩, he, hf => obtain rfl : e = 1 := Fin.ext he.symm; obtain rfl : f = 3 := Fin.ext hf.symm; exact h1

theorem place_one (d : Fin 2) (e f : Fin 4) (he : d.val = e.val) (hf : d.val + 2 = f.val) :
    val_main_v157 (F := Ideal) x2 x4 x5 (ix3 t p d) = Ideal.div (val_main_v146 (F := Ideal) x2 x4 (ix3 t p e) - x5 (ix2 p e))
      (Ideal.div (x5 (ix2 p f)) (Ideal.ofBits .f32 1092616192#32)) := by
  refine both (fun d e f => val_main_v157 (F := Ideal) x2 x4 x5 (ix3 t p d) =
    Ideal.div (val_main_v146 (F := Ideal) x2 x4 (ix3 t p e) - x5 (ix2 p e))
      (Ideal.div (x5 (ix2 p f)) (Ideal.ofBits .f32 1092616192#32))) ?_ ?_ d e f he hf <;>
  pointwise [val_main_v157, val_main_v151, val_main_v150, val_main_v149, val_main_v148, val_main_v152, val_main_v153, val_main_v154,
    val_main_v155, val_main_v156, val_main_cst_27, val_main_v147]

theorem middle (d : Fin 2) (e f : Fin 4) (he : d.val = e.val) (hf : d.val + 2 = f.val) :
    val_main_v142 (F := Ideal) x2 x4 (ix3 t p d) =
      Ideal.div (val_main_v137 (F := Ideal) x2 x4 (ix3 t p e) + val_main_v137 (F := Ideal) x2 x4 (ix3 t p f))
        (Ideal.ofBits .f32 1073741824#32) := by
  refine both (fun d e f => val_main_v142 (F := Ideal) x2 x4 (ix3 t p d) =
    Ideal.div (val_main_v137 (F := Ideal) x2 x4 (ix3 t p e) + val_main_v137 (F := Ideal) x2 x4 (ix3 t p f))
      (Ideal.ofBits .f32 1073741824#32)) ?_ ?_ d e f he hf <;>
  pointwise [val_main_v142, val_main_v141, val_main_v140, val_main_v139, val_main_v138, val_main_cst_26]

theorem size_one (d : Fin 2) (e f : Fin 4) (he : d.val = e.val) (hf : d.val + 2 = f.val) :
    val_main_v169 (F := Ideal) x2 x4 x5 (ix3 t p d) = Ideal.log (Ideal.div (max (val_main_v146 (F := Ideal) x2 x4 (ix3 t p f))
      (Ideal.ofBits .f32 841731191#32)) (max (x5 (ix2 p f)) (Ideal.ofBits .f32 841731191#32))) * Ideal.ofBits .f32 1084227584#32 := by
  refine both (fun d e f => val_main_v169 (F := Ideal) x2 x4 x5 (ix3 t p d) =
    Ideal.log (Ideal.div (max (val_main_v146 (F := Ideal) x2 x4 (ix3 t p f)) (Ideal.ofBits .f32 841731191#32))
      (max (x5 (ix2 p f)) (Ideal.ofBits .f32 841731191#32))) * Ideal.ofBits .f32 1084227584#32) ?_ ?_ d e f he hf <;>
  pointwise [val_main_v169, val_main_v168, val_main_v167, val_main_v166, val_main_v165, val_main_v164, val_main_v163, val_main_v162,
    val_main_v161, val_main_v160, val_main_v159, val_main_v158, val_main_cst_28, val_main_cst_29, val_main_cst_30]

theorem width (d : Fin 2) (e f : Fin 4) (he : d.val = e.val) (hf : d.val + 2 = f.val) :
    val_main_v145 (F := Ideal) x2 x4 (ix3 t p d) =
      val_main_v137 (F := Ideal) x2 x4 (ix3 t p f) - val_main_v137 (F := Ideal) x2 x4 (ix3 t p e) := by
  refine both (fun d e f => val_main_v145 (F := Ideal) x2 x4 (ix3 t p d) =
    val_main_v137 (F := Ideal) x2 x4 (ix3 t p f) - val_main_v137 (F := Ideal) x2 x4 (ix3 t p e)) ?_ ?_ d e f he hf <;>
  pointwise [val_main_v145, val_main_v144, val_main_v143]

/-- The first two offsets. -/
theorem place_target (d : Fin 2) (e f : Fin 4) (he : d.val = e.val) (hf : d.val + 2 = f.val) :
    val_main_v170 (F := Ideal) x2 x4 x5 (ix3 t p e) =
      Ideal.div ((val_main_v137 (F := Ideal) x2 x4 (ix3 t p e) + val_main_v137 (F := Ideal) x2 x4 (ix3 t p f)) * half - x5 (ix2 p e))
        (x5 (ix2 p f) * ((1 / 10 : ℝ) : EReal)) := by
  refine (cat_left (E := 4) (val_main_v157 (F := Ideal) x2 x4 x5) (val_main_v169 (F := Ideal) x2 x4 x5) _ t p d e he).trans ?_
  have e1 : val_main_v146 (F := Ideal) x2 x4 (ix3 t p e) = val_main_v142 (F := Ideal) x2 x4 (ix3 t p d) :=
    cat_left (E := 4) (val_main_v142 (F := Ideal) x2 x4) (val_main_v145 (F := Ideal) x2 x4) _ t p d e he
  rw [place_one x2 x4 x5 t p d e f he hf, e1, middle x2 x4 t p d e f he hf, halve, tenth]

/-- The last two offsets. -/
theorem size_target (d : Fin 2) (e f : Fin 4) (he : d.val = e.val) (hf : d.val + 2 = f.val) :
    val_main_v170 (F := Ideal) x2 x4 x5 (ix3 t p f) =
      Ideal.log (Ideal.div (max (val_main_v137 (F := Ideal) x2 x4 (ix3 t p f) - val_main_v137 (F := Ideal) x2 x4 (ix3 t p e)) tiny)
        (max (x5 (ix2 p f)) tiny)) * five := by
  unfold tiny five
  refine (cat_right (E := 4) (val_main_v157 (F := Ideal) x2 x4 x5) (val_main_v169 (F := Ideal) x2 x4 x5) _ t p d f hf).trans ?_
  have e1 : val_main_v146 (F := Ideal) x2 x4 (ix3 t p f) = val_main_v145 (F := Ideal) x2 x4 (ix3 t p d) :=
    cat_right (E := 4) (val_main_v142 (F := Ideal) x2 x4) (val_main_v145 (F := Ideal) x2 x4) _ t p d f hf
  rw [size_one x2 x4 x5 t p d e f he hf, e1, width x2 x4 t p d e f he hf]

/-- The four offsets of the box that a prior is given. -/
theorem target_read (b q : Fin 4 → EReal) (hb : ∀ k, val_main_v137 (F := Ideal) x2 x4 (ix3 t p k) = b k) (hq : ∀ k, x5 (ix2 p k) = q k)
    (c : Fin 4) : val_main_v170 (F := Ideal) x2 x4 x5 (ix3 t p c) = target b q c := by
  unfold target
  match c with
  | ⟨0, _⟩ => exact (place_target x2 x4 x5 t p 0 0 2 rfl rfl).trans (by rw [hb, hb, hq, hq]; rfl)
  | ⟨1, _⟩ => exact (place_target x2 x4 x5 t p 1 1 3 rfl rfl).trans (by rw [hb, hb, hq, hq]; rfl)
  | ⟨2, _⟩ => exact (size_target x2 x4 x5 t p 0 0 2 rfl rfl).trans (by rw [hb, hb, hq]; rfl)
  | ⟨3, _⟩ => exact (size_target x2 x4 x5 t p 1 1 3 rfl rfl).trans (by rw [hb, hb, hq]; rfl)

theorem smooth_read (c : Fin 4) (d : EReal) (h : val_main_v173 (F := Ideal) x0 x2 x4 x5 (ix3 t p c) = d) :
    val_main_v182 (F := Ideal) x0 x2 x4 x5 (ix3 t p c) = smooth d := by
  subst h
  unfold smooth half
  pointwise [val_main_v182, val_main_v181, val_main_v180, val_main_v179, val_main_v178, val_main_v177, val_main_v176, val_main_v175,
    val_main_v174, val_main_cst_32, val_main_cst_33, val_main_cst_34]
  rfl

end Cert.Multibox.Ref
end
-- ==== Proof.RefSums.lean ====
module

public import proofs.«01_k».proof.Proof.RefCls
public import Idealize.ShloMosaic.Lib.KernelVsHost
public import proofs.«01_k».proof.Proof.Gen.LossRefIdeal.Read

/-! The sums over an image and the layout of the two results, as the reference computes them. -/

@[expose] public section
set_option maxRecDepth 16384
noncomputable section
namespace Cert.Multibox.Ref
open Idealize.ShloMosaic Cert.LossRefIdeal Cert.LossRefIdeal.Gen Cert.LossRefIdeal.Read

variable (I : Image) (x0 : Vec Ideal S32x8732x4 .f32) (x1 : Vec Ideal S32x8732x21 .f32) (x2 : Vec Ideal S32x20x4 .f32)
    (x3 : Vec Ideal S32x20 .i32) (x4 x5 : Vec Ideal S8732x4 .f32) (t : Fin 32) (j : Fin 20) (p : Fin 8732)
theorem bit_value (b : Bool) : FloatOps.uitofp (F := Ideal) FTy.f32 (BitVec.ofBool b) = if b then (1 : EReal) else 0 := by
  show ((((BitVec.ofBool b).toNat : ℝ)) : EReal) = _
  cases b <;> simp

theorem pos_bit (c : BitVec 32) (h : val_main_v122 (F := Ideal) x2 x3 x4 (ix2 t p) = c) :
    val_main_v172 (F := Ideal) x2 x3 x4 (ix2 t p) = BitVec.ofBool (c != 0#32) := by
  subst h
  pointwise [val_main_v172, val_main_v171, val_main_c_31]
  rfl

theorem count_sum : val_main_v195 (F := Ideal) x2 x3 x4 (ix1 t) = ∑ p, FloatOps.uitofp (F := Ideal) FTy.f32 (val_main_v172 (F := Ideal) x2 x3 x4 (ix2 t p)) := by
  have : val_main_v195 (F := Ideal) x2 x3 x4 (ix1 t) = ∑ p, ∑ _ : Fin 1, FloatOps.uitofp (F := Ideal) FTy.f32 (val_main_v172 (F := Ideal) x2 x3 x4 (ix2 t p)) := by
    pointwise [val_main_v195, val_main_v184, val_main_v183, val_main_cst_36]
  rw [this]
  simp only [Finset.univ_unique, Finset.sum_singleton]

theorem loc_sum : val_main_v196 (F := Ideal) x0 x2 x3 x4 x5 (ix1 t) =
    ∑ p, ∑ c, val_main_v182 (F := Ideal) x0 x2 x4 x5 (ix3 t p c) * FloatOps.uitofp (F := Ideal) FTy.f32 (val_main_v172 (F := Ideal) x2 x3 x4 (ix2 t p)) := by
  pointwise [val_main_v196, val_main_v186, val_main_v185, val_main_v184, val_main_v183, val_main_cst_37]

theorem conf_sum : val_main_v197 (F := Ideal) x1 x2 x3 x4 (ix1 t) =
    ∑ p, val_main_v191 (F := Ideal) x1 x2 x3 x4 (ix2 t p) * FloatOps.uitofp (F := Ideal) FTy.f32 (val_main_v172 (F := Ideal) x2 x3 x4 (ix2 t p)) := by
  pointwise [val_main_v197, val_main_v193, val_main_v192, val_main_cst_38]

theorem neg_apply : val_main_v194 (F := Ideal) x1 x2 x3 x4 (ix2 t p) =
    Scalar.select (val_main_v172 (F := Ideal) x2 x3 x4 (ix2 t p)) (0 : EReal) (val_main_v191 (F := Ideal) x1 x2 x3 x4 (ix2 t p)) := by
  rw [val_main_v194_apply]
  congr 1
  exact Ideal.ofBits_zero .f32

theorem sums_count : val_main_v203 (F := Ideal) x0 x1 x2 x3 x4 x5 (ix3 t 0 0) = val_main_v195 (F := Ideal) x2 x3 x4 (ix1 t) := by
  pointwise [val_main_v203, val_main_v202, val_main_v201, val_main_v198, val_main_v199, val_main_v200]

theorem sums_loc : val_main_v203 (F := Ideal) x0 x1 x2 x3 x4 x5 (ix3 t 0 1) = val_main_v196 (F := Ideal) x0 x2 x3 x4 x5 (ix1 t) := by
  pointwise [val_main_v203, val_main_v202, val_main_v201, val_main_v198, val_main_v199, val_main_v200]

theorem sums_conf : val_main_v203 (F := Ideal) x0 x1 x2 x3 x4 x5 (ix3 t 0 2) = val_main_v197 (F := Ideal) x1 x2 x3 x4 (ix1 t) := by
  pointwise [val_main_v203, val_main_v202, val_main_v201, val_main_v198, val_main_v199, val_main_v200]

theorem zero_word : FloatOps.sitofp (F := Ideal) FTy.f32 0#32 = (0 : EReal) := by
  show (((0#32 : BitVec 32).toInt : ℝ) : EReal) = 0
  simp

theorem sums_rest (e : Fin 5) :
    val_main_v203 (F := Ideal) x0 x1 x2 x3 x4 x5 (ix3 t 0 ⟨e.val + 3, by omega⟩) = @OfNat.ofNat EReal 0 _ := by
  fin_cases e <;> (pointwise [val_main_v203, val_main_v202, val_main_call8_v0, val_main_c_39]; exact zero_word)

theorem negs_flat (s : Fin 8) (l : Fin 1092) : val_main_v205 (F := Ideal) x1 x2 x3 x4 (ix3 t s l) =
    val_main_v204 (F := Ideal) x1 x2 x3 x4 (ix2 t ⟨place (s, l), place_lt _⟩) := by
  refine shapeCast_apply _ _ _ _ ?_
  rw [Shape.rowMajor_val_two, Shape.rowMajor_val_three]
  show t.val * 8736 + (s.val * 1092 + l.val) = (t.val * 8 + s.val) * 1092 + l.val
  omega

theorem negs_in (s : Fin 8) (l : Fin 1092) (hp : place (s, l) < 8732) :
    val_main_v205 (F := Ideal) x1 x2 x3 x4 (ix3 t s l) = val_main_v194 (F := Ideal) x1 x2 x3 x4 (ix2 t ⟨place (s, l), hp⟩) := by
  rw [negs_flat]
  refine pad_apply_of_inside _ _ _ _ _ _ _ _ (ix2 t ⟨place (s, l), hp⟩ : S32x8732.Idx) ?_
  intro a
  match a with
  | ⟨0, _⟩ => show t.val = 0 + t.val * 1; omega
  | ⟨1, _⟩ => show place (s, l) = 0 + place (s, l) * 1; omega

theorem negs_out (s : Fin 8) (l : Fin 1092) (hp : ¬ place (s, l) < 8732) :
    val_main_v205 (F := Ideal) x1 x2 x3 x4 (ix3 t s l) = (@OfNat.ofNat EReal 0 _) := by
  rw [negs_flat]
  refine (pad_apply_of_not_inside _ _ _ _ _ _ _ _ (1 : Fin 2) ?_).trans zero_word
  show ¬ (0 ≤ place (s, l) ∧ (place (s, l) - 0) % 1 = 0 ∧ (place (s, l) - 0) / 1 < 8732)
  omega

end Cert.Multibox.Ref
end
-- ==== Proof.RefResult.lean ====
module

public import proofs.«01_k».proof.Proof.RefCls
public import proofs.«01_k».proof.Proof.RefCE
public import proofs.«01_k».proof.Proof.RefTarget
public import proofs.«01_k».proof.Proof.RefSums
public import proofs.«01_k».proof.Proof.Gen.LossRefIdeal.Read

/-! The two results of the reference, image by image, as the mathematics of the loss. -/

@[expose] public section
set_option maxRecDepth 16384
noncomputable section
namespace Cert.Multibox.Ref
open Idealize.ShloMosaic Cert.LossRefIdeal Cert.LossRefIdeal.Gen Cert.LossRefIdeal.Read

variable (I : Image) (x0 : Vec Ideal S32x8732x4 .f32) (x1 : Vec Ideal S32x8732x21 .f32) (x2 : Vec Ideal S32x20x4 .f32)
    (x3 : Vec Ideal S32x20 .i32) (x4 x5 : Vec Ideal S8732x4 .f32) (t : Fin 32) (j : Fin 20) (p : Fin 8732)

variable {I x0 x1 x2 x3 x4 x5 t} (h : Reads I x0 x1 x2 x3 x4 x5 t)
include h

theorem pos_value : FloatOps.uitofp (F := Ideal) FTy.f32 (val_main_v172 (F := Ideal) x2 x3 x4 (ix2 t p)) = I.pos p := by
  rw [pos_bit x2 x3 x4 t p _ (cls_read p h), bit_value]
  unfold Image.pos
  by_cases hc : I.cls p = 0#32 <;> simp [hc]

theorem loc_value (c : Fin 4) : val_main_v182 (F := Ideal) x0 x2 x4 x5 (ix3 t p c) = smooth (I.pb p c - target (I.bx (I.obj p)) (I.pc p) c) := by
  refine smooth_read x0 x2 x4 x5 t p c _ ?_
  rw [val_main_v173_apply, target_read x2 x4 x5 t p _ _ (fun k => box_read p h k) (fun k => h.pc p k) c, h.pb]
  rfl

theorem cls_small (ok : I.Ok) : ∃ k : Fin 21, I.cls p = BitVec.ofNat 32 k := by
  have := h.pc
  unfold Image.cls
  by_cases hb : I.best p < half
  · rw [if_pos hb]; exact ⟨0, rfl⟩
  · rw [if_neg hb]; exact ok.lab _

theorem ce_value (ok : I.Ok) : val_main_v191 (F := Ideal) x1 x2 x3 x4 (ix2 t p) = I.ce p := by
  obtain ⟨k, hk⟩ := cls_small p h ok
  refine (ce_read x1 x2 x3 x4 t p (I.sc p) (ok.sc p) (fun k => h.sc p k) k ((cls_read p h).trans hk)).trans ?_
  unfold Image.ce
  rw [hk]

theorem neg_value (ok : I.Ok) : val_main_v194 (F := Ideal) x1 x2 x3 x4 (ix2 t p) = I.neg p := by
  rw [neg_apply, pos_bit x2 x3 x4 t p _ (cls_read p h), ce_value p h ok]
  unfold Image.neg
  by_cases hc : I.cls p = 0#32
  · rw [if_pos hc, hc]; rfl
  · rw [if_neg hc, bne_iff_ne.mpr hc]; rfl

/-- The first result: the three sums of an image, and zeros. -/
theorem sums_value (ok : I.Ok) (e : Fin 8) : val_main_v203 (F := Ideal) x0 x1 x2 x3 x4 x5 (ix3 t 0 e) = I.sums e := by
  unfold Image.sums
  match e with
  | ⟨0, _⟩ =>
    refine (sums_count x0 x1 x2 x3 x4 x5 t).trans ((count_sum x2 x3 x4 t).trans ?_)
    simp only [pos_value _ h]
    rfl
  | ⟨1, _⟩ =>
    refine (sums_loc x0 x1 x2 x3 x4 x5 t).trans ((loc_sum x0 x2 x3 x4 x5 t).trans ?_)
    simp only [pos_value _ h, loc_value _ h]
    rfl
  | ⟨2, _⟩ =>
    refine (sums_conf x0 x1 x2 x3 x4 x5 t).trans ((conf_sum x1 x2 x3 x4 t).trans ?_)
    simp only [pos_value _ h, ce_value _ h ok]
    rfl
  | ⟨n + 3, hn⟩ =>
    refine (sums_rest x0 x1 x2 x3 x4 x5 t ⟨n, by omega⟩).trans ?_
    rw [if_neg (by simp [Fin.ext_iff]), if_neg (by simp [Fin.ext_iff]), if_neg (by simp [Fin.ext_iff])]

/-- The second result: the cross entropies of the background priors at their places, and zeros. -/
theorem negs_value (ok : I.Ok) (s : Fin 8) (l : Fin 1092) : val_main_v205 (F := Ideal) x1 x2 x3 x4 (ix3 t s l) =
    if hp : place (s, l) < 8732 then I.neg ⟨place (s, l), hp⟩ else 0 := by
  by_cases hp : place (s, l) < 8732
  · rw [dif_pos hp, negs_in x1 x2 x3 x4 t s l hp, neg_value _ h ok]
  · rw [dif_neg hp]
    exact negs_out x1 x2 x3 x4 t s l hp

end Cert.Multibox.Ref
end
-- ==== Proof.MineBlock.lean ====
module

public import proofs.«01_k».proof.Proof.Gen.MineIdeal.Frame
public import Idealize.ShloMosaic.Lib.Tactic
public import Idealize.ShloMosaic.Lib.Claim
public import Idealize.ShloMosaic.Lib.Pointwise

/-!
The array that the second call leaves: one point of its grid, whose blocks are the whole arrays; so what it leaves is what
its body stores, from the two arguments as launched. And the loss that the lines after the call compute from it.
-/

@[expose] public section
set_option maxRecDepth 16384
noncomputable section
namespace Cert.Mining
open Idealize.ShloMosaic Idealize.ShloMosaic.TcCoe Idealize.SL.Sem Cert.MineIdeal Cert.MineIdeal.Gen

variable (m : (ℓ : Loc nD τ sig) → Buf (Elt Ideal) ℓ) (ρ : Dev nD → PrngReg) (c : Dev nD)

theorem zeros2 : (![0, 0] : Fin 2 → Nat) = fun _ => 0 := funext fun a => by fin_cases a <;> rfl

/-- The first column of the per-image sums: how many prior boxes of each image are matched. -/
def firstColumn (y : Vec Ideal S32x8 .f32) : Vec Ideal S32x1 .f32 := fun j => y (ix2 (j 0) 0)

/-- One trip of the bisection. -/
def trip (x : Vec Ideal S32x8736 .f32) (n : Vec Ideal S32x1 .f32) (p : IVec S32x1 32 × IVec S32x1 32) :
    IVec S32x1 32 × IVec S32x1 32 := (k0_pay6 x n p.1 p.2, k0_pay7 x n p.1 p.2)

/-- The words that the bisection ends with. -/
def found (x : Vec Ideal S32x8736 .f32) (n : Vec Ideal S32x1 .f32) : IVec S32x1 32 :=
  ((trip x n)^[31] (k0_pay2, k0_pay3)).1

theorem load_column (y : Vec Ideal S32x8 .f32) :
    View.ld y (Rect.unit ![0, 0] ![32, 1] inb_S32x8_S32x1_0_0) = firstColumn y := by
  funext j
  unfold firstColumn
  refine congrArg y (funext fun a => Fin.ext ?_)
  match a with
  | ⟨0, _⟩ => show 0 + 1 * (j 0).val = (j 0).val; omega
  | ⟨1, _⟩ => have h : (j 1).val < 1 := (j 1).isLt; show 0 + 1 * (j 1).val = 0; omega

/-- What the body stores, from its two arguments. -/
theorem body_stores (arg0 : Memref sig .tc .vmem S32x8736 .f32) (h0 : arg0.IsWhole) (arg1 : Memref sig .tc .vmem S32x8 .f32)
    (h1 : arg1.IsWhole) (arg2 : Memref sig .tc .vmem S1x8 .f32) (h2 : arg2.IsWhole) (x : Vec Ideal S32x8736 .f32)
    (y : Vec Ideal S32x8 .f32) :
    out0_A_2 c arg0 h0 arg1 h1 arg2 h2 x y = k0_pay8 x (firstColumn y) (found x (firstColumn y)) := by
  unfold out0_A_2
  rw [View.read_writes_eq_canon _ _ _ (cover0_A_2 c arg0 h0 arg1 h1 arg2 h2 x y)]
  unfold kernelRun0_A
  dsimp only
  rw [View.canon_unit_zero zeros2]
  sl_unfold_words
  simp only [View.readAt_eq_ld, h0.read_unread, h1.read_unread, View.ld_unit_zero (S := S32x8736) zeros2]
  rw [load_column]
  have e : Scf.fold (n := k0_t1_loop.trips) (fun _ p => trip x (firstColumn y) p) (k0_pay2, k0_pay3) =
      (trip x (firstColumn y))^[31] (k0_pay2, k0_pay3) := by
    rw [Scf.fold_eq, List.foldl_const, List.length_finRange]; rfl
  exact congrArg (fun p : IVec S32x1 32 × IVec S32x1 32 => k0_pay8 x (firstColumn y) p.1) e

theorem point0 : ∀ t : Fin cfg0.N, win0_0.index t (0 : Fin 2) = 0 ∧ win0_0.index t (1 : Fin 2) = 0 :=
  (by decide +kernel : ∀ t : Fin grid0.N, _)
theorem point1 : ∀ t : Fin cfg0.N, win0_1.index t (0 : Fin 2) = 0 ∧ win0_1.index t (1 : Fin 2) = 0 :=
  (by decide +kernel : ∀ t : Fin grid0.N, _)
theorem point2 : ∀ t : Fin cfg0.N, win0_2.index t (0 : Fin 2) = 0 ∧ win0_2.index t (1 : Fin 2) = 0 :=
  (by decide +kernel : ∀ t : Fin grid0.N, _)

theorem emb0 (t : Fin cfg0.N) (j : S32x8736.Idx) : ((cfg0.win 0).blk t).view.emb j = j := by
  obtain ⟨e0, e1⟩ := point0 t
  funext a; apply Fin.ext
  match a with
  | ⟨0, _⟩ => show win0_0.index t (0 : Fin 2) * 32 + 1 * (j 0).val = (j 0).val; omega
  | ⟨1, _⟩ => show win0_0.index t (1 : Fin 2) * 8736 + 1 * (j 1).val = (j 1).val; omega

theorem emb1 (t : Fin cfg0.N) (j : S32x8.Idx) : ((cfg0.win 1).blk t).view.emb j = j := by
  obtain ⟨e0, e1⟩ := point1 t
  funext a; apply Fin.ext
  match a with
  | ⟨0, _⟩ => show win0_1.index t (0 : Fin 2) * 32 + 1 * (j 0).val = (j 0).val; omega
  | ⟨1, _⟩ => show win0_1.index t (1 : Fin 2) * 8 + 1 * (j 1).val = (j 1).val; omega

theorem emb2 (t : Fin cfg0.N) (j : S1x8.Idx) : ((cfg0.win 2).blk t).view.emb j = j := by
  obtain ⟨e0, e1⟩ := point2 t
  funext a; apply Fin.ext
  match a with
  | ⟨0, _⟩ => show win0_2.index t (0 : Fin 2) * 1 + 1 * (j 0).val = (j 0).val; omega
  | ⟨1, _⟩ => show win0_2.index t (1 : Fin 2) * 8 + 1 * (j 1).val = (j 1).val; omega

theorem block0 (t : Fin cfg0.N) : iblk m c 0 t = m ((c : Thread nD τ).loc main_arg0) := by
  funext j
  show V m c main_arg0 (((cfg0.win 0).blk t).view.emb (j : S32x8736.Idx)) = _
  rw [emb0, V_main_arg0]

theorem block1 (t : Fin cfg0.N) : iblk m c 1 t = m ((c : Thread nD τ).loc main_arg1) := by
  funext j
  show V m c main_arg1 (((cfg0.win 1).blk t).view.emb (j : S32x8.Idx)) = _
  rw [emb1, V_main_arg1]

/-- What the call leaves, from its two arguments. -/
def left (x : Vec Ideal S32x8736 .f32) (y : Vec Ideal S32x8 .f32) : Vec Ideal S1x8 .f32 :=
  k0_pay8 x (firstColumn y) (found x (firstColumn y))

theorem flushed_eq (t : Fin cfg0.N) : (dats m 0 c).flushed 2 t = ((cfg0.win 2).blk t).view.read (Elt Ideal)
    (left (m ((c : Thread nD τ).loc main_arg0)) (m ((c : Thread nD τ).loc main_arg1))) := by
  have e : outsAt0 m c t = left (m ((c : Thread nD τ).loc main_arg0)) (m ((c : Thread nD τ).loc main_arg1)) := by
    unfold outsAt0
    rw [body_stores, block0, block1]; rfl
  show (cfg0.win 2).cut (grid0.coords t) ((dats m 0 c).after 2 t) = _
  rw [after0_2, e]
  funext j
  show left _ _ (j : S1x8.Idx) = left _ _ (((cfg0.win 2).blk t).view.emb (j : S1x8.Idx))
  rw [emb2]

theorem covered (i : S1x8.Idx) : ∃ t : Fin cfg0.N, (cfg0.win 2).flush t = true ∧ i ∈ ((cfg0.win 2).blk t).view.set := by
  refine ⟨(0 : Fin 1), flush0_2 _, ?_⟩
  have h := ((cfg0.win 2).blk (0 : Fin 1)).view.emb_mem_set i
  exact emb2 (0 : Fin 1) i ▸ h

/-- The array after the run. -/
theorem array_left : (dats m 0 c).arrAt 2 cfg0.N =
    left (m ((c : Thread nD τ).loc main_arg0)) (m ((c : Thread nD τ).loc main_arg1)) :=
  (dats m 0 c).arrAt_eq_of_cover 2 _ (fun t _ => flushed_eq m c t) covered

/-- The loss that the lines after the call compute, from what the call leaves and the sums of each image. -/
def lossOf (h : Vec Ideal S1x8 .f32) (y : Vec Ideal S32x8 .f32) : Vec Ideal S_ .f32 :=
  let zero : Vec Ideal S_ .f32 := constant (F := Ideal) S_ .f32 0x00000000#32
  let one : Vec Ideal S_ .f32 := constant (F := Ideal) S_ .f32 0x3F800000#32
  let matched : Vec Ideal S_ .f32 := Host.reduceAdd (F := Ideal) (φ := .f32)
    (shapeCast S32 (extractStridedSlice S32x1 ![0, 0] y slices_S32x8_S32x1_0_0) shapeCasts_S32x1_S32) zero reducesTo_S32_S_d0 h_S_
  let location : Vec Ideal S_ .f32 := Host.reduceAdd (F := Ideal) (φ := .f32)
    (shapeCast S32 (extractStridedSlice S32x1 ![0, 1] y slices_S32x8_S32x1_0_1) shapeCasts_S32x1_S32) zero reducesTo_S32_S_d0 h_S_
  let confidence : Vec Ideal S_ .f32 := Host.reduceAdd (F := Ideal) (φ := .f32)
    (shapeCast S32 (extractStridedSlice S32x1 ![0, 2] y slices_S32x8_S32x1_0_2) shapeCasts_S32x1_S32) zero reducesTo_S32_S_d0 h_S_
  let hard : Vec Ideal S_ .f32 := shapeCast S_ (extractStridedSlice S1x1 ![0, 0] h slices_S1x8_S1x1_0_0) shapeCasts_S1x1_S_
  addf (F := Ideal) (φ := .f32)
    (Host.divf (F := Ideal) (φ := .f32) (addf (F := Ideal) (φ := .f32) confidence hard) (maximumf (F := Ideal) (φ := .f32) matched one))
    (mulf (F := Ideal) (φ := .f32) one (Host.divf (F := Ideal) (φ := .f32) location (maximumf (F := Ideal) (φ := .f32) matched one)))

/-- What the lines after the call leave as the loss. -/
theorem loss_left : Pipeline.afterTail₀ cfgs (dats m) 0 (V0 m) [hostOps1] c main_v18 =
    lossOf (left (m ((c : Thread nD τ).loc main_arg0)) (m ((c : Thread nD τ).loc main_arg1))) (m ((c : Thread nD τ).loc main_arg1)) := by
  have e0 : Pipeline.withArrays spec0 c (V0 m c) (fun w => (dats m 0 c).arrAt w cfg0.N) (Proc.devRef .tc main_v0) =
      left (m ((c : Thread nD τ).loc main_arg0)) (m ((c : Thread nD τ).loc main_arg1)) :=
    (Pipeline.withArrays_arr spec0 launch0.win.arr_inj c (V0 m c) (fun w => (dats m 0 c).arrAt w cfg0.N) 2).trans (array_left m c)
  have e1 : Pipeline.withArrays spec0 c (V0 m c) (fun w => (dats m 0 c).arrAt w cfg0.N) (Proc.devRef .tc main_arg1) =
      m ((c : Thread nD τ).loc main_arg1) :=
    (Pipeline.withArrays_arr spec0 launch0.win.arr_inj c (V0 m c) (fun w => (dats m 0 c).arrAt w cfg0.N) 1).trans
      (((dats m 0 c).arrAt_in 1 rfl _).trans ((A_eq m c 1).trans (V_main_arg1 m c)))
  show StableHlo.after hostOps1 (Pipeline.withArrays spec0 c (V0 m c) fun w => (dats m 0 c).arrAt w cfg0.N) (Proc.devRef .tc main_v18) = _
  generalize Pipeline.withArrays spec0 c (V0 m c) (fun w => (dats m 0 c).arrAt w cfg0.N) = W at e0 e1 ⊢
  rw [← e0, ← e1]
  after_results_simp
  rfl

/-- The run, with what it leaves given by the arguments. -/
theorem run : θ_run defs (onTc (τ := τ) (main (F := Ideal))) ⟨m, fun _ => 0, ρ⟩ fun r => ∀ c : Dev nD,
      r.2.mem ((c : Thread nD τ).loc main_v0) = left (m ((c : Thread nD τ).loc main_arg0)) (m ((c : Thread nD τ).loc main_arg1))
      ∧ r.2.mem ((c : Thread nD τ).loc main_v18) =
        lossOf (left (m ((c : Thread nD τ).loc main_arg0)) (m ((c : Thread nD τ).loc main_arg1))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (array_left m c),
    ((h c).2 main_v18 (by decide)).trans (loss_left m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

end Cert.Mining
end
-- ==== Proof.Words.lean ====
module

public import Idealize.ShloMosaic.Lib.TotalOrder

/-!
The words of the nonnegative float32 numbers in their order: the word `a` below `0x7F800000` stands for a number, a greater
word for a greater number, and `0x7F800000` for +∞. So bisecting the words bisects the numbers.
-/

@[expose] public section
noncomputable section
namespace Cert.Multibox
open Idealize.ShloMosaic

/-- The word of +∞. -/
abbrev infWord : ℕ := 0x7F800000

/-- The number of the word `a`. -/
def num (a : ℕ) : EReal := Ideal.ofBits .f32 (BitVec.ofNat 32 a)

theorem num_word (w : BitVec 32) : num w.toNat = Ideal.ofBits .f32 w := by
  unfold num; rw [BitVec.ofNat_toNat, BitVec.setWidth_eq]

theorem nan_iff (w : BitVec 32) : TotalOrder.IsNaN 8 23 w ↔ w.toNat / 2 ^ 23 % 2 ^ 8 = 255 ∧ w.toNat % 2 ^ 23 ≠ 0 := by
  unfold TotalOrder.IsNaN; rw [TotalOrder.expo_eq, TotalOrder.frac_eq]; norm_num

theorem toNat_word (a : ℕ) (h : a ≤ infWord) : (BitVec.ofNat 32 a).toNat = a := by
  rw [BitVec.toNat_ofNat]; exact Nat.mod_eq_of_lt (by unfold infWord at h; omega)

theorem not_nan (a : ℕ) (h : a ≤ infWord) : ¬ TotalOrder.IsNaN 8 23 (BitVec.ofNat 32 a) := by
  rw [nan_iff, toNat_word a h]; unfold infWord at h; omega

theorem key_of (w : BitVec 32) : (totalOrderKey (w : BitVec (8 + 23 + 1))).toNat =
    if w.toNat < 2 ^ 31 then w.toNat + 2 ^ 31 else 2 ^ 32 - 1 - w.toNat := by
  have h := TotalOrder.toNat_totalOrderKey (e := 8) (m := 23) w
  have hm := TotalOrder.msb_iff (e := 8) (m := 23) w
  by_cases hs : w.toNat < 2 ^ 31
  · have : BitVec.msb (w : BitVec (8 + 23 + 1)) = false := by
      rw [← Bool.not_eq_true, hm]; omega
    rw [this] at h; rw [if_pos hs]; exact h
  · have : BitVec.msb (w : BitVec (8 + 23 + 1)) = true := by rw [hm]; omega
    rw [this] at h; rw [if_neg hs]; exact h

theorem num_lt_iff (a b : ℕ) (ha : a ≤ infWord) (hb : b ≤ infWord) : num a < num b ↔ a < b := by
  have h := TotalOrder.lt_iff (e := 8) (m := 23) (a := BitVec.ofNat 32 a) (b := BitVec.ofNat 32 b) (not_nan a ha)
    (not_nan b hb) (by
      rintro ⟨-, -, h⟩
      have ea := TotalOrder.msb_iff (e := 8) (m := 23) (BitVec.ofNat 32 a)
      have eb := TotalOrder.msb_iff (e := 8) (m := 23) (BitVec.ofNat 32 b)
      rw [toNat_word a ha] at ea
      rw [toNat_word b hb] at eb
      unfold infWord at ha hb
      apply h; rw [Bool.eq_iff_iff, ea, eb]; omega)
  rw [key_of, key_of, toNat_word a ha, toNat_word b hb] at h
  unfold infWord at ha hb
  rw [if_pos (by omega), if_pos (by omega)] at h
  exact h.symm.trans (by omega)

theorem num_zero : num 0 = 0 := by simp [num, Ideal.ofBits, Ideal.ieee]

theorem num_inf : num infWord = ⊤ := by simp [num, infWord, Ideal.ofBits, Ideal.ieee]

theorem num_le_iff (a b : ℕ) (ha : a ≤ infWord) (hb : b ≤ infWord) : num a ≤ num b ↔ a ≤ b := by
  rw [← not_lt, num_lt_iff b a hb ha, not_lt]

/-- A word below that of +∞ stands for a real number that is not negative. -/
theorem num_real (a : ℕ) (h : a < infWord) : ∃ r : ℝ, 0 ≤ r ∧ num a = (r : EReal) := by
  have h0 : (0 : EReal) ≤ num a := by rw [← num_zero, num_le_iff _ _ (by decide) h.le]; exact Nat.zero_le _
  have h1 : num a < ⊤ := by rw [← num_inf, num_lt_iff _ _ h.le le_rfl]; exact h
  refine ⟨(num a).toReal, EReal.toReal_nonneg h0, (EReal.coe_toReal h1.ne ?_).symm⟩
  exact (EReal.bot_lt_zero.trans_le h0).ne'

theorem nan_bot (w : BitVec 32) (h : TotalOrder.IsNaN 8 23 w) : Ideal.ofBits .f32 w = ⊥ := by
  obtain ⟨h1, h2⟩ := h
  show Ideal.ieee 8 23 w = ⊥
  unfold TotalOrder.expo at h1
  unfold TotalOrder.frac at h2
  unfold Ideal.ieee
  dsimp only
  rw [if_pos h1, if_neg h2]

/-- A float32 number from 0 up and below +∞ is the number of such a word. -/
theorem word_of (w : BitVec 32) (h0 : 0 ≤ Ideal.ofBits .f32 w) (h1 : Ideal.ofBits .f32 w < ⊤) :
    ∃ a, a < infWord ∧ Ideal.ofBits .f32 w = num a := by
  have hw := w.isLt
  have hn : ¬ TotalOrder.IsNaN 8 23 w := fun hn => by rw [nan_bot w hn] at h0; exact absurd h0 (by simp)
  have hn' := hn
  rw [nan_iff] at hn'
  by_cases hs : w.toNat < 2 ^ 31
  · refine ⟨w.toNat, ?_, (num_word w).symm⟩
    by_contra hlt
    have : w.toNat = infWord := by unfold infWord at hlt ⊢; omega
    rw [← num_word, this, num_inf] at h1
    exact absurd h1 (lt_irrefl _)
  · refine ⟨0, by decide, ?_⟩
    by_cases hz : w.toNat = 2 ^ 31
    · have : w = 0x80000000#32 := BitVec.eq_of_toNat_eq hz
      rw [this, num_zero]; simp [Ideal.ofBits, Ideal.ieee]
    · have hlt := TotalOrder.lt_iff (e := 8) (m := 23) (a := w) (b := BitVec.ofNat 32 0) hn (not_nan 0 (by decide)) (by
        rw [TotalOrder.oppositeZeros_f32_iff]
        rintro (⟨h, -⟩ | ⟨-, h⟩)
        · exact hz (congrArg BitVec.toNat h)
        · exact absurd h (by decide))
      rw [key_of, key_of, if_neg hs, toNat_word 0 (by decide), if_pos (by decide)] at hlt
      have : Ideal.ofBits .f32 w < num 0 := hlt.1 (by omega)
      rw [num_zero] at this
      exact absurd h0 (not_le.2 this)

end Cert.Multibox
end
-- ==== Proof.Bisect.lean ====
module

public import proofs.«01_k».proof.Proof.Words

/-!
Bisection of the words of float32 numbers. A property `p` of the words holds at 0; each trip halves the interval, keeping
`p` at its lower end and `p` false at its upper end (or that end the word of +∞). After 31 trips the interval is one word.
-/

@[expose] public section
noncomputable section
namespace Cert.Multibox
open Idealize.ShloMosaic

/-- What the bisection keeps of its two ends. -/
structure Between (p : ℕ → Prop) (lo hi : ℕ) : Prop where
  lt : lo < hi
  le : hi ≤ infWord
  low : p lo
  high : hi = infWord ∨ ¬ p hi

/-- One trip on numbers, to the middle `lo + (hi - lo) / 2`. -/
theorem Between.step {p : ℕ → Prop} {lo hi : ℕ} (h : Between p lo hi) (w : ℕ) (hw : hi - lo ≤ 2 ^ (w + 1)) (lo' hi' : ℕ)
    (h1 : p (lo + (hi - lo) / 2) → lo' = lo + (hi - lo) / 2 ∧ hi' = hi)
    (h2 : ¬ p (lo + (hi - lo) / 2) → lo' = lo ∧ hi' = lo + (hi - lo) / 2) (hone : hi ≠ lo + 1) :
    Between p lo' hi' ∧ hi' - lo' ≤ 2 ^ w := by
  obtain ⟨a, b, c, d⟩ := h
  rw [pow_succ] at hw
  by_cases hp : p (lo + (hi - lo) / 2)
  · obtain ⟨rfl, rfl⟩ := h1 hp
    exact ⟨⟨by omega, b, hp, d⟩, by omega⟩
  · obtain ⟨rfl, rfl⟩ := h2 hp
    exact ⟨⟨by omega, by omega, c, Or.inr hp⟩, by omega⟩

/-- A trip from an interval of one word leaves it: the middle is the lower end, where `p` holds. -/
theorem Between.stay {p : ℕ → Prop} {lo : ℕ} (h : Between p lo (lo + 1)) (lo' hi' : ℕ)
    (h1 : p (lo + (lo + 1 - lo) / 2) → lo' = lo + (lo + 1 - lo) / 2 ∧ hi' = lo + 1) : lo' = lo ∧ hi' = lo + 1 := by
  have e : lo + (lo + 1 - lo) / 2 = lo := by omega
  rw [e] at h1; exact h1 h.low

/-- The trips together: `s` gives the two ends from those before, as one trip does. -/
theorem bisect {σ : Type} (s : σ → σ) (lo hi : σ → ℕ) (p : ℕ → Prop)
    (h1 : ∀ x, Between p (lo x) (hi x) → p (lo x + (hi x - lo x) / 2) →
      lo (s x) = lo x + (hi x - lo x) / 2 ∧ hi (s x) = hi x)
    (h2 : ∀ x, Between p (lo x) (hi x) → ¬ p (lo x + (hi x - lo x) / 2) →
      lo (s x) = lo x ∧ hi (s x) = lo x + (hi x - lo x) / 2)
    (w : ℕ) (x : σ) (h : Between p (lo x) (hi x)) (hw : hi x - lo x ≤ 2 ^ w) :
    Between p (lo (s^[w] x)) (hi (s^[w] x)) ∧ hi (s^[w] x) = lo (s^[w] x) + 1 := by
  induction w generalizing x with
  | zero => have := h.lt; exact ⟨h, by simp at hw ⊢; omega⟩
  | succ w ih =>
    rw [Function.iterate_succ_apply]
    by_cases hone : hi x = lo x + 1
    · have e := Between.stay (lo := lo x) (by rw [← hone]; exact h) (lo (s x)) (hi (s x))
        (by rw [← hone]; exact h1 x h)
      have hp := Nat.one_le_two_pow (n := w)
      exact ih (s x) (by rw [e.1, e.2, ← hone]; exact h) (by rw [e.1, e.2]; omega)
    · have e := h.step w hw _ _ (h1 x h) (h2 x h) hone
      exact ih (s x) e.1 e.2

end Cert.Multibox
end
-- ==== Proof.MineBody.lean ====
module

public import proofs.«01_k».proof.Proof.MineBlock
public import proofs.«01_k».proof.Proof.Bisect
public import Idealize.ShloMosaic.Lib.StableHlo.Predicate

/-!
What the body computes on the way, entry by entry: the middle of an interval of words, the test of that middle, and the sum
that it ends with.
-/

@[expose] public section
set_option maxRecDepth 16384
noncomputable section
namespace Cert.Mining
open Idealize.ShloMosaic Idealize.ShloMosaic.TcCoe Cert.MineIdeal Cert.MineIdeal.Gen Cert.Multibox

/-- The difference of two words, halved: a quotient that is corrected downwards when the signs differ. -/
def half (d : BitVec 32) : BitVec 32 :=
  Scalar.select (IntOp.andi (IntOp.cmpi .ne (IntOp.subi ((IntOp.cmpi .sgt d 0#32).setWidth 32) ((IntOp.cmpi .slt d 0#32).setWidth 32)) 1#32)
    (IntOp.cmpi .ne (IntOp.remsi .vector d 2#32) 0#32)) (IntOp.subi (IntOp.divsi .vector d 2#32) 1#32) (IntOp.divsi .vector d 2#32)

theorem middle_at (a b : IVec S32x1 32) (i : S32x1.Idx) :
    k0_pay4 a b i = IntOp.addi (a i) (half (IntOp.subi (b i) (a i))) := by
  unfold k0_pay4 half
  rfl

theorem half_toNat (d : BitVec 32) (h0 : 0 < d.toNat) (h1 : d.toNat < 2 ^ 31) : (half d).toNat = d.toNat / 2 := by
  have hs : IntOp.cmpi .sgt d 0#32 = 1#1 := (StableHlo.Predicate.sgt_iff_toNat h1 (by decide)).2 h0
  have hl : IntOp.cmpi .slt d 0#32 = 0#1 := by
    have : d.slt 0#32 = false := by
      rw [BitVec.slt_zero_eq_msb]; exact BitVec.msb_eq_false_iff_two_mul_lt.2 (by omega)
    unfold IntOp.cmpi; rw [this]; rfl
  unfold half
  rw [hs, hl, show IntOp.cmpi .ne (IntOp.subi ((1#1 : BitVec 1).setWidth 32) ((0#1 : BitVec 1).setWidth 32)) 1#32 = 0#1 from by decide]
  have : ∀ q : BitVec 1, IntOp.andi 0#1 q = 0#1 := by decide
  rw [this]
  exact StableHlo.Predicate.divsi_two .vector d h1

theorem middle_toNat (a b : IVec S32x1 32) (i : S32x1.Idx) (hlt : (a i).toNat < (b i).toNat) (hb : (b i).toNat ≤ infWord) :
    (k0_pay4 a b i).toNat = (a i).toNat + ((b i).toNat - (a i).toNat) / 2 := by
  unfold infWord at hb
  have hd : (IntOp.subi (b i) (a i)).toNat = (b i).toNat - (a i).toNat := by
    unfold IntOp.subi; rw [BitVec.toNat_sub]; have := (a i).isLt; omega
  rw [middle_at]
  unfold IntOp.addi
  rw [BitVec.toNat_add, half_toNat _ (by omega) (by omega), hd]
  omega

/-- A truth value as a number. -/
theorem bit_number (b : BitVec 1) : ((b.setWidth 32).toInt : ℝ) = if b = 1#1 then 1 else 0 := by
  have : ∀ b : BitVec 1, (b.setWidth 32).toInt = if b = 1#1 then 1 else 0 := by decide
  rw [this]; split <;> simp

/-- A sum of real numbers is the same in the extended reals. -/
theorem real_sum {N : ℕ} (v : Fin N → ℝ) : ((∑ j, v j : ℝ) : EReal) = ∑ j, (v j : EReal) :=
  map_sum (⟨⟨Real.toEReal, EReal.coe_zero⟩, EReal.coe_add⟩ : ℝ →+ EReal) v _

/-- How many of the numbers `v` satisfy `q`, as a sum of truth values. -/
theorem count_sum {N : ℕ} (q : Fin N → Prop) [DecidablePred q] :
    (∑ j : Fin N, FloatOps.sitofp (F := Ideal) FTy.f32 ((BitVec.ofBool (decide (q j))).setWidth 32)) =
      (((Finset.univ.filter q).card : ℝ) : EReal) := by
  have e (j : Fin N) : FloatOps.sitofp (F := Ideal) FTy.f32 ((BitVec.ofBool (decide (q j))).setWidth 32) =
      (((if q j then 1 else 0 : ℝ)) : EReal) := by
    show ((((BitVec.ofBool (decide (q j))).setWidth 32).toInt : ℝ) : EReal) = _
    rw [bit_number]; by_cases h : q j <;> simp [h]
  rw [Finset.sum_congr rfl fun j _ => e j, ← real_sum, Finset.sum_boole]

/-- The test of the middle word: as many entries as wanted are at least its number. -/
theorem test_at (x : Vec Ideal S32x8736 .f32) (n : Vec Ideal S32x1 .f32) (a b : IVec S32x1 32) (i : Fin 32) :
    k0_pay5 x n a b (ix2 i 0) = BitVec.ofBool (decide (k0_pay1 n (ix2 i 0) ≤
      (((Finset.univ.filter fun j : Fin 8736 => num (k0_pay4 a b (ix2 i 0)).toNat ≤ x (ix2 i j)).card : ℝ) : EReal))) := by
  unfold k0_pay5
  pointwise
  rw [count_sum, num_word]

/-- How many entries are wanted: three for each matched prior box, and at most all of them. -/
theorem wanted_at (n : Vec Ideal S32x1 .f32) (i : S32x1.Idx) (q : ℕ) (hq : n i = ((q : ℝ) : EReal)) :
    k0_pay1 n i = (((min (3 * q) 8732 : ℕ) : ℝ) : EReal) := by
  have e : k0_pay1 n i = min (Ideal.ofBits .f32 0x40400000#32 * n i) (Ideal.ofBits .f32 0x46087000#32) := by
    unfold k0_pay1
    rfl
  have h3 : Ideal.ofBits .f32 0x40400000#32 = ((3 : ℝ) : EReal) := by
    simp [Ideal.ofBits, Ideal.ieee]; rw [← EReal.coe_mul]; norm_num
  have h8 : Ideal.ofBits .f32 0x46087000#32 = ((8732 : ℝ) : EReal) := by
    simp [Ideal.ofBits, Ideal.ieee]; rw [← EReal.coe_mul]; norm_num
  rw [e, hq, h3, h8, ← EReal.coe_mul]
  rcases le_total (3 * q) 8732 with h | h
  · have hr : (3 : ℝ) * q ≤ 8732 := by exact_mod_cast h
    rw [min_eq_left (EReal.coe_le_coe_iff.2 hr), min_eq_left h]; push_cast; rfl
  · have hr : (8732 : ℝ) ≤ 3 * q := by exact_mod_cast h
    rw [min_eq_right (EReal.coe_le_coe_iff.2 hr), min_eq_right h]; push_cast; rfl

/-- What row `i` adds to the result: the entries above the number `t`, and `t` for those that are missing. -/
def rowSum (x : Vec Ideal S32x8736 .f32) (n : Vec Ideal S32x1 .f32) (t : Fin 32 → EReal) (i : Fin 32) : EReal :=
  (∑ j : Fin 8736, if t i < x (ix2 i j) then x (ix2 i j) else 0) +
    (k0_pay1 n (ix2 i 0) - (((Finset.univ.filter fun j : Fin 8736 => t i < x (ix2 i j)).card : ℝ) : EReal)) * t i

/-- What the body stores: lane 0 the sum over the rows, the other lanes 0. -/
theorem stored_at (x : Vec Ideal S32x8736 .f32) (n : Vec Ideal S32x1 .f32) (w : IVec S32x1 32) (e : Fin 8) :
    k0_pay8 x n w (ix2 0 e) = if e = 0 then ∑ i : Fin 32, rowSum x n (fun i => num (w (ix2 i 0)).toNat) i else 0 := by
  have lane : ∀ e : Fin 8, IntOp.cmpi .eq (BitVec.ofNat 32 e.val) 0#32 = if e = 0 then 1#1 else 0#1 := by decide
  unfold k0_pay8
  pointwise
  rw [lane]
  split
  · rw [show ∀ A B : EReal, Scalar.select 1#1 A B = A from fun _ _ => rfl]
    refine Finset.sum_congr rfl fun i _ => ?_
    rw [Finset.sum_const, Finset.card_univ, Fintype.card_fin, one_smul]
    unfold rowSum
    simp only [count_sum, num_word]
  · rfl

end Cert.Mining
end
-- ==== Proof.TopSum.lean ====
module

public import Idealize.ShloMosaic.PureOps.Ideal
public import Idealize.ShloMosaic.Lib.SortFacts

/-!
The sum of the `k` largest of some numbers, in two ways: the numbers in falling order, the first `k` of them added; and a
threshold `t` with at most `k` numbers above it and at least `k` numbers not below it, the numbers above it added, with `t`
for each of those that are missing from `k`.
-/

@[expose] public section
noncomputable section
namespace Cert.Multibox
open Finset

/-- The numbers `u`, which fall, and a threshold `t`: the first `k` of them. -/
theorem sum_first {N : ℕ} (u : Fin N → ℝ) (hu : Antitone u) (t : ℝ) (k : ℕ) (hkN : k ≤ N)
    (hgt : (univ.filter fun r => t < u r).card ≤ k) (hge : k ≤ (univ.filter fun r => t ≤ u r).card) :
    (∑ r : Fin N, if r.val < k then u r else 0) =
      (∑ r : Fin N, if t < u r then u r else 0) + (k - ((univ.filter fun r => t < u r).card : ℝ)) * t := by
  have inside (r : Fin N) (h : r.val < k) : t ≤ u r := by
    by_contra hlt
    have hs : (univ.filter fun r => t ≤ u r) ⊆ Finset.Iio r := fun s hs => by
      rw [Finset.mem_Iio]; by_contra hsr
      exact hlt ((Finset.mem_filter.1 hs).2.trans (hu (not_lt.1 hsr)))
    have := Finset.card_le_card hs
    rw [Fin.card_Iio] at this; omega
  have outside (r : Fin N) (h : k ≤ r.val) : ¬ t < u r := fun hlt => by
    have hs : Finset.Iic r ⊆ (univ.filter fun r => t < u r) := fun s hs =>
      Finset.mem_filter.2 ⟨Finset.mem_univ _, hlt.trans_le (hu (Finset.mem_Iic.1 hs))⟩
    have := Finset.card_le_card hs
    rw [Fin.card_Iic] at this; omega
  have each (r : Fin N) : (if r.val < k then u r else 0) = (if t < u r then u r else 0) +
      ((if r.val < k then 1 else 0) - (if t < u r then 1 else 0)) * t := by
    by_cases h : r.val < k
    · by_cases h' : t < u r
      · simp [h, h']
      · simp [h, h', le_antisymm (inside r h) (not_lt.1 h')]
    · simp [h, outside r (not_lt.1 h)]
  have count : (∑ r : Fin N, if r.val < k then (1 : ℝ) else 0) = k := by
    rw [Finset.sum_boole]
    have : (univ.filter fun r : Fin N => r.val < k).card = k := by
      rw [Fin.card_filter_val_lt, min_eq_right hkN]
    rw [this]
  rw [Finset.sum_congr rfl fun r _ => each r, Finset.sum_add_distrib, ← Finset.sum_mul, Finset.sum_sub_distrib, count,
    Finset.sum_boole]

/-- The numbers `v`, put in falling order by `σ`. -/
theorem sum_largest {N : ℕ} (v : Fin N → ℝ) (σ : Fin N → Fin N) (hσ : Function.Bijective σ) (hu : Antitone fun r => v (σ r))
    (t : ℝ) (k : ℕ) (hkN : k ≤ N) (hgt : (univ.filter fun j => t < v j).card ≤ k)
    (hge : k ≤ (univ.filter fun j => t ≤ v j).card) :
    (∑ r : Fin N, if r.val < k then v (σ r) else 0) =
      (∑ j : Fin N, if t < v j then v j else 0) + (k - ((univ.filter fun j => t < v j).card : ℝ)) * t := by
  have card (p : ℝ → Prop) [DecidablePred p] :
      (univ.filter fun r => p (v (σ r))).card = (univ.filter fun j => p (v j)).card := by
    rw [Finset.card_filter, Finset.card_filter]
    exact hσ.sum_comp (fun j => if p (v j) then 1 else 0)
  have h := sum_first (fun r => v (σ r)) hu t k hkN (by rw [card (fun x => t < x)]; exact hgt)
    (by rw [card (fun x => t ≤ x)]; exact hge)
  rw [h, card (fun x => t < x), hσ.sum_comp (fun j => if t < v j then v j else 0)]

/-- The threshold found among `N + d` numbers, of which the last `d` are zeros. -/
theorem sum_largest_padded {N d : ℕ} (v : Fin (N + d) → ℝ) (h0 : ∀ j, 0 ≤ v j) (hp : ∀ j : Fin d, v (Fin.natAdd N j) = 0)
    (σ : Fin N → Fin N) (hσ : Function.Bijective σ) (hu : Antitone fun r => v (Fin.castAdd d (σ r)))
    (t : ℝ) (ht : 0 ≤ t) (k : ℕ) (hkN : k ≤ N) (hgt : (univ.filter fun j => t < v j).card ≤ k)
    (hge : k ≤ (univ.filter fun j => t ≤ v j).card) :
    (∑ j, if t < v j then v j else 0) + (k - ((univ.filter fun j => t < v j).card : ℝ)) * t =
      ∑ r : Fin N, if r.val < k then v (Fin.castAdd d (σ r)) else 0 := by
  have pad (j : Fin d) : ¬ t < v (Fin.natAdd N j) := by rw [hp]; exact not_lt.2 ht
  have egt : (univ.filter fun j => t < v j).card = (univ.filter fun j : Fin N => t < v (Fin.castAdd d j)).card := by
    rw [Finset.card_filter, Finset.card_filter, Fin.sum_univ_add]; simp [pad]
  have hge' : k ≤ (univ.filter fun j : Fin N => t ≤ v (Fin.castAdd d j)).card := by
    rcases eq_or_lt_of_le ht with rfl | hpos
    · rw [Finset.filter_true_of_mem fun j _ => h0 _, Finset.card_univ, Fintype.card_fin]; exact hkN
    · have none (j : Fin d) : ¬ t ≤ v (Fin.natAdd N j) := by rw [hp]; exact not_le.2 hpos
      rw [Finset.card_filter, Fin.sum_univ_add] at hge
      rw [Finset.card_filter]; simpa [none] using hge
  rw [egt] at hgt ⊢
  rw [sum_largest (fun j => v (Fin.castAdd d j)) σ hσ hu t k hkN hgt hge', Fin.sum_univ_add]
  simp [pad]

end Cert.Multibox
end
-- ==== Proof.MineRow.lean ====
module

public import proofs.«01_k».proof.Proof.MineBody
public import proofs.«01_k».proof.Proof.TopSum

/-!
What the bisection finds in a row of float32 numbers, and the row's sum: with the entries in falling order, the first of
them, as many as are wanted.
-/

@[expose] public section
set_option maxRecDepth 16384
noncomputable section
namespace Cert.Mining
open Idealize.ShloMosaic Idealize.ShloMosaic.TcCoe Cert.MineIdeal Cert.MineIdeal.Gen Cert.Multibox

/-- What is known of the two arguments: the entries are float32 numbers from 0 up and below +∞, the last four of each row
    are 0, and the number of matched prior boxes is a natural number. -/
structure Known (x : Vec Ideal S32x8736 .f32) (y : Vec Ideal S32x8 .f32) where
  word : Fin 32 → Fin 8736 → ℕ
  word_lt : ∀ i j, word i j < infWord
  entry : ∀ i j, x (ix2 i j) = num (word i j)
  pad : ∀ (i : Fin 32) (j : Fin 4), x (ix2 i (Fin.natAdd 8732 j)) = 0
  matched : Fin 32 → ℕ
  count : ∀ i, y (ix2 i 0) = ((matched i : ℝ) : EReal)

variable {x : Vec Ideal S32x8736 .f32} {y : Vec Ideal S32x8 .f32} (K : Known x y) (i : Fin 32)

/-- How many entries of row `i` are wanted. -/
def Known.wanted : ℕ := min (3 * K.matched i) 8732

/-- The entries as real numbers. -/
def realOf (x : Vec Ideal S32x8736 .f32) (i : Fin 32) (j : Fin 8736) : ℝ := EReal.toReal (x (ix2 i j))

include K in
theorem Known.real_eq (j : Fin 8736) : x (ix2 i j) = ((realOf x i j : ℝ) : EReal) := by
  obtain ⟨r, -, h⟩ := num_real _ (K.word_lt i j)
  unfold realOf; rw [K.entry, h, EReal.toReal_coe]

include K in
theorem Known.real_nonneg (j : Fin 8736) : 0 ≤ realOf x i j := by
  obtain ⟨r, h0, h⟩ := num_real _ (K.word_lt i j)
  unfold realOf; rw [K.entry, h, EReal.toReal_coe]; exact h0

theorem Known.wanted_eq : k0_pay1 (firstColumn y) (ix2 i 0) = ((K.wanted i : ℝ) : EReal) :=
  wanted_at _ _ _ (K.count i)

/-- As many entries of row `i` as are wanted are at least the number of the word `a`. -/
def Known.enough (a : ℕ) : Prop := K.wanted i ≤ (Finset.univ.filter fun j : Fin 8736 => num a ≤ x (ix2 i j)).card

theorem Known.test (a b : IVec S32x1 32) : k0_pay5 x (firstColumn y) a b (ix2 i 0) = 1#1 ↔
    K.enough i (k0_pay4 a b (ix2 i 0)).toNat := by
  rw [test_at, K.wanted_eq]
  unfold Known.enough
  constructor
  · intro h; by_contra hn
    rw [decide_eq_false fun h' => hn (Nat.cast_le.1 (EReal.coe_le_coe_iff.1 h'))] at h
    exact absurd h (by decide)
  · intro h; rw [decide_eq_true (EReal.coe_le_coe_iff.2 (Nat.cast_le.2 h))]; rfl

theorem Known.found_spec : Between (K.enough i) (found x (firstColumn y) (ix2 i 0)).toNat
    ((found x (firstColumn y) (ix2 i 0)).toNat + 1) := by
  have hle : (2139095040#32).toNat ≤ infWord := by decide
  have h := bisect (trip x (firstColumn y)) (fun p => (p.1 (ix2 i 0)).toNat) (fun p => (p.2 (ix2 i 0)).toNat) (K.enough i)
    (fun p h hp => by
      rw [← middle_toNat _ _ _ h.lt h.le] at hp ⊢
      have t := (K.test i p.1 p.2).2 hp
      exact ⟨congrArg BitVec.toNat (show Scalar.select (k0_pay5 x (firstColumn y) p.1 p.2 (ix2 i 0)) _ _ = _ by rw [t]; rfl),
        congrArg BitVec.toNat (show Scalar.select (k0_pay5 x (firstColumn y) p.1 p.2 (ix2 i 0)) _ _ = _ by rw [t]; rfl)⟩)
    (fun p h hp => by
      rw [← middle_toNat _ _ _ h.lt h.le] at hp ⊢
      have t : k0_pay5 x (firstColumn y) p.1 p.2 (ix2 i 0) = 0#1 := by
        have two : ∀ b : BitVec 1, b ≠ 1#1 → b = 0#1 := by decide
        exact two _ fun e => hp ((K.test i p.1 p.2).1 e)
      exact ⟨congrArg BitVec.toNat (show Scalar.select (k0_pay5 x (firstColumn y) p.1 p.2 (ix2 i 0)) _ _ = _ by rw [t]; rfl),
        congrArg BitVec.toNat (show Scalar.select (k0_pay5 x (firstColumn y) p.1 p.2 (ix2 i 0)) _ _ = _ by rw [t]; rfl)⟩)
    31 (k0_pay2, k0_pay3)
    { lt := (by decide : (0#32).toNat < (2139095040#32).toNat)
      le := hle
      low := by
        show K.wanted i ≤ _
        rw [Finset.filter_true_of_mem fun j _ => ?_, Finset.card_univ, Fintype.card_fin]
        · unfold Known.wanted; omega
        · rw [K.entry]; exact (num_le_iff _ _ (by show (0#32 : BitVec 32).toNat ≤ infWord; decide) (K.word_lt i j).le).2 (Nat.zero_le _)
      high := Or.inl rfl }
    (by show (2139095040#32).toNat - (0#32).toNat ≤ 2 ^ 31; decide)
  obtain ⟨h1, h2⟩ := h
  exact h2 ▸ h1

/-- The number that the bisection finds in row `i`. -/
def threshold (x : Vec Ideal S32x8736 .f32) (y : Vec Ideal S32x8 .f32) (i : Fin 32) : EReal :=
  num (found x (firstColumn y) (ix2 i 0)).toNat

/-- At most as many entries as wanted are above it. -/
theorem Known.above : (Finset.univ.filter fun j : Fin 8736 => threshold x y i < x (ix2 i j)).card ≤ K.wanted i := by
  have h := K.found_spec i
  have hle := h.le
  have e : (Finset.univ.filter fun j : Fin 8736 => threshold x y i < x (ix2 i j)) =
      Finset.univ.filter fun j : Fin 8736 => num ((found x (firstColumn y) (ix2 i 0)).toNat + 1) ≤ x (ix2 i j) :=
    Finset.filter_congr fun j _ => by
      unfold threshold
      rw [K.entry, num_lt_iff _ _ (by omega) (K.word_lt i j).le, num_le_iff _ _ hle (K.word_lt i j).le]; omega
  rw [e]
  rcases h.high with h' | h'
  · rw [h', Finset.filter_false_of_mem fun j _ => ?_]
    · exact Nat.zero_le _
    · rw [num_inf, K.real_eq]; exact not_le.2 (EReal.coe_lt_top _)
  · exact (not_le.1 h').le

/-- The sum of row `i`, with its entries put in falling order by `σ`. -/
theorem Known.row (σ : Fin 8732 → Fin 8732) (hσ : Function.Bijective σ)
    (hu : Antitone fun r => realOf x i (Fin.castAdd 4 (σ r))) :
    rowSum x (firstColumn y) (threshold x y) i =
      ((∑ r : Fin 8732, if r.val < K.wanted i then realOf x i (Fin.castAdd 4 (σ r)) else 0 : ℝ) : EReal) := by
  have h := K.found_spec i
  obtain ⟨t, ht0, ht⟩ := num_real (found x (firstColumn y) (ix2 i 0)).toNat (by have := h.le; omega)
  have habove := K.above i
  have hlow : K.wanted i ≤ (Finset.univ.filter fun j : Fin 8736 => num (found x (firstColumn y) (ix2 i 0)).toNat ≤ x (ix2 i j)).card :=
    h.low
  have hthr : threshold x y i = (t : EReal) := ht
  rw [ht] at hlow
  rw [hthr] at habove
  simp only [K.real_eq, EReal.coe_lt_coe_iff, EReal.coe_le_coe_iff] at habove hlow
  have key := sum_largest_padded (N := 8732) (d := 4) (realOf x i) (K.real_nonneg i)
    (fun j => by unfold realOf; rw [K.pad]; rfl) σ hσ hu t ht0 (K.wanted i) (min_le_right _ _) habove hlow
  rw [← key]
  unfold rowSum
  rw [hthr, K.wanted_eq]
  simp only [K.real_eq, EReal.coe_lt_coe_iff]
  rw [EReal.coe_add, EReal.coe_mul, EReal.coe_sub, real_sum]
  refine congrArg₂ (· + ·) (Finset.sum_congr rfl fun j _ => ?_) rfl
  split <;> rfl

end Cert.Mining
end
-- ==== Proof.RefSorted.lean ====
module

public import proofs.«01_k».proof.Proof.Gen.MineRefIdeal.Read
public import Idealize.ShloMosaic.Lib.Claim
public import Idealize.ShloMosaic.Lib.Pointwise
public import Idealize.ShloMosaic.Lib.SortFacts

/-!
The reference of the second call: each row sorted and turned round, the first entries added.
-/

@[expose] public section
set_option maxRecDepth 16384
noncomputable section
namespace Cert.Mining
open Idealize.ShloMosaic Idealize.ShloMosaic.TcCoe Cert.MineRefIdeal Cert.MineRefIdeal.Read

/-- The comparison by which the reference sorts, on numbers that are not -∞: the smaller before the greater. -/
theorem before_iff (a b : Ideal .f32) : comparator_f32_d1 (F := Ideal) a b = BitVec.ofBool (decide ((a : EReal) < b)) := by
  unfold comparator_f32_d1
  dsimp only
  pointwise
  have zero (a : EReal) : (if a = 0 then 0 else a) = a := by split <;> simp [*]
  simp only [ne_eq, not_true_eq_false, if_false]
  rw [zero, zero]
  rfl

variable (x : Vec Ideal S32x8736 .f32) (y : Vec Ideal S32x8 .f32)

/-- The place in row `i` of the entry that the sort puts at `r`. -/
def source (i : Fin 32) (r : Fin 8732) : Fin 8732 :=
  sortedFrom (fun k k' => comparator_f32_d1 (F := Ideal) (x (ix2 i (Fin.castAdd 4 k))) (x (ix2 i (Fin.castAdd 4 k'))) == 1#1) r

theorem sorted_at (i : Fin 32) (r : Fin 8732) :
    val_main_v3 (F := Ideal) x (ix2 i r) = x (ix2 i (Fin.castAdd 4 (source x i r))) := by
  unfold val_main_v3 Host.sort
  rw [dif_pos (by decide)]
  have along (k : Fin 8732) : Shape.Idx.along (ix2 i r : S32x8732.Idx) 1 k = ix2 i k := by
    funext a
    match a with
    | ⟨0, _⟩ => rfl
    | ⟨1, _⟩ => rfl
  have cut (k : Fin 8732) : val_main_v0 (F := Ideal) x (ix2 i k) = x (ix2 i (Fin.castAdd 4 k)) := by
    rw [val_main_v0_apply]
    refine congrArg x (funext fun a => ?_)
    match a with
    | ⟨0, _⟩ => exact Fin.ext (by rfl)
    | ⟨1, _⟩ => exact Fin.ext (by rfl)
  have all (k : Fin 8732) : val_main_v0 (F := Ideal) x (Shape.Idx.along (ix2 i r : S32x8732.Idx) 1 k) =
      x (ix2 i (Fin.castAdd 4 k)) := by rw [along, cut]
  refine (all _).trans ?_
  refine congrArg (fun k => x (ix2 i (Fin.castAdd 4 k))) ?_
  unfold source
  refine congrArg (fun b => sortedFrom b r) ?_
  funext k k'
  exact congrArg₂ (fun a b => comparator_f32_d1 (F := Ideal) a b == 1#1) (all k) (all k')

theorem turned_at (i : Fin 32) (r : Fin 8732) :
    val_main_v4 (F := Ideal) x (ix2 i r) = x (ix2 i (Fin.castAdd 4 (source x i r.rev))) := by
  unfold val_main_v4
  rw [← sorted_at x]
  refine congrArg (val_main_v3 (F := Ideal) x) (funext fun a => ?_)
  match a with
  | ⟨0, _⟩ => rfl
  | ⟨1, _⟩ => rfl

theorem mask_at (i : Fin 32) (r : Fin 8732) (q : ℕ) (hq : y (ix2 i 0) = ((q : ℝ) : EReal)) :
    val_main_v14 (F := Ideal) y (ix2 i r) = ((if r.val < min (3 * q) 8732 then 1 else 0 : ℝ) : EReal) := by
  rw [val_main_v14_apply, val_main_v13_apply, val_main_v11_apply, val_main_v9_apply, val_main_v8_apply, val_main_v7_apply,
    val_main_v12_apply, val_main_v10_apply, val_main_v6_apply, val_main_v5_apply, val_main_cst_apply, val_main_v2_apply,
    val_main_v1_apply]
  have e : idx_main_v1 (idx_main_v2 (idx_main_v10 (idx_main_v12 (ix2 i r)))) = ix2 i 0 := by
    funext a
    match a with
    | ⟨0, _⟩ => exact Fin.ext (by show i.val / 1 = i.val; omega)
    | ⟨1, _⟩ => exact Fin.ext (by rfl)
  have hr := r.isLt
  have er : FloatOps.sitofp (F := Ideal) FTy.f32 (BitVec.ofNat 32 ((idx_main_v9 (idx_main_v11 (ix2 i r)) 0).val)) =
      ((r.val : ℝ) : EReal) := by
    show ((((BitVec.ofNat 32 r.val).toInt : ℝ)) : EReal) = _
    have : (BitVec.ofNat 32 r.val).toInt = (r.val : ℤ) := by
      rw [BitVec.toInt_eq_toNat_of_lt] <;> rw [BitVec.toNat_ofNat, Nat.mod_eq_of_lt (by omega)]
      omega
    rw [this]; norm_cast
  have h3 : FloatOps.ofBits (F := Ideal) FTy.f32 0x40400000#32 = ((3 : ℝ) : EReal) := by
    show Ideal.ofBits .f32 0x40400000#32 = _
    simp [Ideal.ofBits, Ideal.ieee]; rw [← EReal.coe_mul]; norm_num
  have em : FloatOps.mulf (F := Ideal) (φ := .f32) ((3 : ℝ) : EReal) ((q : ℝ) : EReal) = (((3 * q : ℕ) : ℝ) : EReal) := by
    show ((3 : ℝ) : EReal) * ((q : ℝ) : EReal) = _
    rw [← EReal.coe_mul]; push_cast; rfl
  rw [er, h3, e, hq, em]
  show (((BitVec.ofBool (decide (((r.val : ℝ) : EReal) < (((3 * q : ℕ) : ℝ) : EReal)))).toNat : ℝ) : EReal) = _
  by_cases h : r.val < 3 * q
  · rw [if_pos (by omega), decide_eq_true (EReal.coe_lt_coe_iff.2 (Nat.cast_lt.2 h))]; simp
  · rw [if_neg (by omega), decide_eq_false fun h' => h (Nat.cast_lt.1 (EReal.coe_lt_coe_iff.1 h'))]; simp

theorem result_at (e : Fin 8) : val_main_v18 (F := Ideal) x y (ix2 0 e) =
    if e = 0 then ∑ i : Fin 32, ∑ r : Fin 8732, val_main_v15 (F := Ideal) x y (ix2 i r) else 0 := by
  unfold val_main_v18
  pointwise
  have lane : e.val < 1 ↔ e = 0 := by rw [Fin.ext_iff]; show _ ↔ e.val = 0; omega
  by_cases h : e.val < 1
  · rw [dif_pos h, if_pos (lane.1 h)]
    unfold val_main_v17
    pointwise
    unfold val_main_v16
    pointwise
    have hz : val_main_cst_0 (F := Ideal) (Shape.Idx.first Gen.h_S_) = (0 : EReal) := by
      rw [val_main_cst_0_apply]; show Ideal.ofBits .f32 0#32 = 0; simp [Ideal.ofBits, Ideal.ieee]
    rw [hz, zero_add]
  · rw [dif_neg h, if_neg fun e => h (lane.2 e)]
    show ((((0#32 : BitVec 32).toInt : ℝ)) : EReal) = 0
    simp

end Cert.Mining
end
-- ==== Proof.MineResult.lean ====
module

public import proofs.«01_k».proof.Proof.MineRow
public import proofs.«01_k».proof.Proof.RefSorted

/-!
The second call and its reference leave the same array: the bisection's sum of a row is the sum of its largest entries.
The loss is then the same too.
-/

@[expose] public section
set_option maxRecDepth 16384
noncomputable section
namespace Cert.Mining
open Idealize.ShloMosaic Idealize.ShloMosaic.TcCoe Cert.MineRefIdeal Cert.MineRefIdeal.Read Cert.Multibox

variable {x : Vec Ideal S32x8736 .f32} {y : Vec Ideal S32x8 .f32}

/-- The entry at each rank, the largest first, is met once. -/
theorem ranked_bijective (i : Fin 32) : Function.Bijective fun r : Fin 8732 => source x i r.rev :=
  ⟨fun _ _ h => Fin.rev_injective (sortedFrom_injective _ h), fun k => by
    obtain ⟨r, hr⟩ := sortedFrom_surjective
      (fun k k' => comparator_f32_d1 (F := Ideal) (x (ix2 i (Fin.castAdd 4 k))) (x (ix2 i (Fin.castAdd 4 k'))) == 1#1) k
    exact ⟨r.rev, (congrArg (source x i) (Fin.rev_rev r)).trans hr⟩⟩

/-- A sorted row does not fall. -/
theorem sorted_le (i : Fin 32) (a b : Fin 8732) (h : a < b) :
    (x (ix2 i (Fin.castAdd 4 (source x i a))) : EReal) ≤ x (ix2 i (Fin.castAdd 4 (source x i b))) := by
  have bit (u v : EReal) : (comparator_f32_d1 (F := Ideal) u v == 1#1) = decide (u < v) := by
    rw [before_iff]
    by_cases h : u < v <;> simp [h]
  have e := sortedFrom_noInversion
    (fun k k' => comparator_f32_d1 (F := Ideal) (x (ix2 i (Fin.castAdd 4 k))) (x (ix2 i (Fin.castAdd 4 k'))) == 1#1)
    (fun k k' => comparator_f32_d1 (F := Ideal) (x (ix2 i (Fin.castAdd 4 k))) (x (ix2 i (Fin.castAdd 4 k'))) == 1#1)
    (fun k k' h => by
      rw [bit, decide_eq_true_eq] at h
      rw [bit, decide_eq_false_iff_not]; exact h.asymm)
    (fun _ _ h => h)
    (fun k k' k'' h h' => by
      rw [bit, decide_eq_false_iff_not, not_lt] at h h' ⊢
      exact h'.trans h)
    a b h
  rw [bit, decide_eq_false_iff_not, not_lt] at e
  exact e

theorem Known.falling (K : Known x y) (i : Fin 32) :
    Antitone fun r : Fin 8732 => realOf x i (Fin.castAdd 4 (source x i r.rev)) := by
  intro r r' h
  rcases h.lt_or_eq with h | rfl
  · have e := sorted_le (x := x) i r'.rev r.rev (Fin.rev_lt_rev.2 h)
    rw [K.real_eq, K.real_eq, EReal.coe_le_coe_iff] at e
    exact e
  · exact le_rfl

/-- The reference's sum of a row. -/
theorem Known.reference_row (K : Known x y) (i : Fin 32) : ∑ r : Fin 8732, val_main_v15 (F := Ideal) x y (ix2 i r) =
    ((∑ r : Fin 8732, if r.val < K.wanted i then realOf x i (Fin.castAdd 4 (source x i r.rev)) else 0 : ℝ) : EReal) := by
  rw [real_sum]
  refine Finset.sum_congr rfl fun r _ => ?_
  rw [val_main_v15_apply, turned_at, mask_at y i r (K.matched i) (K.count i), K.real_eq]
  refine (EReal.coe_mul _ _).symm.trans (congrArg _ ?_)
  unfold Known.wanted
  split <;> simp

theorem eq2 {a b : ℕ} (i : (⟨2, ![a, b]⟩ : Shape).Idx) : i = ix2 (i 0 : Fin a) (i 1 : Fin b) := by
  funext k
  match k with
  | ⟨0, _⟩ => rfl
  | ⟨1, _⟩ => rfl

/-- What the call leaves is the reference's result. -/
theorem Known.left_eq (K : Known x y) : left x y = val_main_v18 (F := Ideal) x y := by
  funext i
  obtain ⟨e, rfl⟩ : ∃ e : Fin 8, i = ix2 (0 : Fin 1) e :=
    ⟨i 1, (eq2 i).trans (congrArg (fun u : Fin 1 => ix2 u (i 1 : Fin 8)) (Subsingleton.elim (α := Fin 1) _ _))⟩
  refine (stored_at _ _ _ _).trans (Eq.trans ?_ (result_at x y e).symm)
  refine ite_congr rfl (fun _ => Finset.sum_congr rfl fun i _ => ?_) fun _ => rfl
  exact (K.row i _ (ranked_bijective i) (K.falling i)).trans (K.reference_row i).symm

/-- Lane 0 of the reference's first result is the sum it takes into the loss. -/
theorem lane_zero : shapeCast S_ (extractStridedSlice S1x1 ![0, 0] (val_main_v18 (F := Ideal) x y) MineIdeal.Gen.slices_S1x8_S1x1_0_0)
    MineIdeal.Gen.shapeCasts_S1x1_S_ = val_main_v16 (F := Ideal) x y := by
  funext i
  pointwise
  refine (result_at x y 0).trans ?_
  rw [if_pos rfl]
  unfold val_main_v16
  pointwise
  have hz : val_main_cst_0 (F := Ideal) (Shape.Idx.first Gen.h_S_) = (0 : EReal) := by
    rw [val_main_cst_0_apply]; show Ideal.ofBits .f32 0#32 = 0; simp [Ideal.ofBits, Ideal.ieee]
  rw [hz, zero_add]

/-- The reference's loss, from its first result. -/
theorem reference_loss : val_main_v33 (F := Ideal) x y = lossOf (val_main_v18 (F := Ideal) x y) y := by
  unfold lossOf
  rw [lane_zero]
  rfl

end Cert.Mining
end
-- ==== Proof.MinePre.lean ====
module

public import proofs.«01_k».proof.Defs
public import proofs.«01_k».proof.Proof.Gen.Pre_mine_ok
public import proofs.«01_k».proof.Proof.Precondition
public import proofs.«01_k».proof.Proof.MineRow

/-!
What the second call's precondition says of its two arguments.
-/

@[expose] public section
set_option maxRecDepth 16384
noncomputable section
namespace Cert.Mining
open Idealize.ShloMosaic Idealize.ShloMosaic.TcCoe Idealize.SL.Sem Cert.Multibox

theorem eq_of_bit (u v : EReal) (h : FloatOps.cmpf (F := Ideal) (φ := FTy.f32) .oeq u v = 1#1) : u = v := by
  by_contra hn
  simp [FloatOps.cmpf, Ideal.cmp, hn] at h

theorem ge_of_bit (u v : EReal) (h : FloatOps.cmpf (F := Ideal) (φ := FTy.f32) .oge u v = 1#1) : v ≤ u := by
  by_contra hn
  simp [FloatOps.cmpf, Ideal.cmp, hn] at h

/-- A float that is at least 0 and the value of an integer is a natural number. -/
theorem natural_of (v : EReal) (h0 : 0 ≤ v) (b : BitVec 32) (h : v = ((b.toInt : ℝ) : EReal)) :
    ∃ q : ℕ, v = ((q : ℝ) : EReal) := by
  rw [h] at h0
  have hb : 0 ≤ b.toInt := by exact_mod_cast EReal.coe_nonneg.1 h0
  refine ⟨b.toInt.toNat, h.trans ?_⟩
  have : ((b.toInt.toNat : ℤ) : ℝ) = (b.toInt : ℝ) := by rw [Int.toNat_of_nonneg hb]
  rw [← this]; norm_cast

open Cert.Pre_mine_ok in
/-- The precondition ends in its last comparisons, of words that need not be known. -/
theorem pre_last (x : Vec Ideal S32x8736 .f32) (y : Vec Ideal S32x8 .f32) :
    ∃ (a b k : IVec S32x8736 32) (d : IVec S32x8736 1), Cert.Pre_mine_ok.fn (F := Ideal) x y =
      fn_part12 (F := Ideal) x y (andi (cmpf (F := Ideal) .oge x (broadcastInDim S32x8736 ![] Facts.bcast_S_S32x8736 (constant S_ .f32 0x00000000#32)))
        (cmpf (F := Ideal) .olt x (broadcastInDim S32x8736 ![] Facts.bcast_S_S32x8736 (constant S_ .f32 0x7F800000#32)))) a b k d := by
  apply Exists.intro
  apply Exists.intro
  apply Exists.intro
  apply Exists.intro
  · exact rfl
  · exact fun _ => 0#32

open Cert.Pre_mine_ok in
/-- The three parts of the precondition, element by element. -/
theorem pre_parts (x : Vec Ideal S32x8736 .f32) (y : Vec Ideal S32x8 .f32)
    (h : Cert.Pre_mine_ok.fn (F := Ideal) x y = fun _ => 1#1) :
    (∀ i, ∃ w : BitVec 32, 0 ≤ Ideal.ofBits .f32 w ∧ Ideal.ofBits .f32 w < ⊤ ∧ x i = Ideal.ofBits .f32 w) ∧
      (∀ (i : Fin 32) (j : Fin 4), x (ix2 i (Fin.natAdd 8732 j)) = 0) ∧
      (∀ i : Fin 32, ∃ q : ℕ, y (ix2 i 0) = ((q : ℝ) : EReal)) := by
  have : Subsingleton S_.Idx := ⟨fun x y => funext fun k => k.elim0⟩
  have z : Ideal.ofBits .f32 0#32 = 0 := by simp [Ideal.ofBits, Ideal.ieee]
  have t : Ideal.ofBits .f32 0x7F800000#32 = ⊤ := by simp [Ideal.ofBits, Ideal.ieee]
  have e := congrFun h ix0
  obtain ⟨a, b, k, d, last⟩ := pre_last x y
  rw [last] at e
  unfold fn_part12 fn_part13 at e
  obtain ⟨e, e3⟩ := IntOp.andi_eq_one.1 e
  obtain ⟨e1, e2⟩ := IntOp.andi_eq_one.1 e
  have r1 := Host.reduce_andi_all _ _ _ _ _ e1
  have r2 := Host.reduce_andi_all _ _ _ _ _ e2
  have r3 := Host.reduce_andi_all _ _ _ _ _ e3
  refine ⟨fun i => ?_, fun i j => ?_, fun i => ?_⟩
  · obtain ⟨a, b⟩ := IntOp.andi_eq_one.1 (r1 i)
    obtain ⟨a, a'⟩ := IntOp.andi_eq_one.1 a
    have h0 := ge_of_bit (x i) (Ideal.ofBits .f32 0#32) a
    have h1 := lt_of_bit (x i) (Ideal.ofBits .f32 0x7F800000#32) a'
    have h2 := eq_of_bit (x i) (Ideal.ofBits .f32 _) b
    rw [z] at h0; rw [t] at h1
    exact ⟨_, h2 ▸ h0, h2 ▸ h1, h2⟩
  · refine (eq_of_bit _ _ (Eq.trans (congrArg₂ (FloatOps.cmpf (F := Ideal) (φ := FTy.f32) .oeq) ?_ rfl) (r2 (ix2 i j)))).trans z
    refine congrArg x (funext fun a => Fin.ext ?_)
    match a with
    | ⟨0, _⟩ => simp [ix2]
    | ⟨1, _⟩ => simp [ix2]
  · obtain ⟨a, b⟩ := IntOp.andi_eq_one.1 (r3 (ix1 i))
    have e : shapeCast S32 (extractStridedSlice S32x1 ![0, 0] y Facts.slices_S32x8_S32x1_0_0) Facts.shapeCasts_S32x1_S32 (ix1 i) =
        y (ix2 i 0) := by
      pointwise
    have h0 := ge_of_bit _ _ (Eq.trans (congrArg₂ (FloatOps.cmpf (F := Ideal) (φ := FTy.f32) .oge) e.symm rfl) a)
    have h1 := eq_of_bit _ _ (Eq.trans (congrArg₂ (FloatOps.cmpf (F := Ideal) (φ := FTy.f32) .oeq) e.symm rfl) b)
    exact natural_of _ (z ▸ h0) _ h1

/-- Of arguments that meet the precondition all is known that the bisection needs. -/
theorem known_of_pre (x : Vec Ideal Cert.MineIdeal.S32x8736 .f32) (y : Vec Ideal Cert.MineIdeal.S32x8 .f32)
    (h : Cert.Pre_mine_ok.fn (F := Ideal) x y = fun _ => 1#1) : Nonempty (Known x y) := by
  obtain ⟨hx, hp, hy⟩ := pre_parts x y h
  have hw (i : Fin 32) (j : Fin 8736) : ∃ a, a < infWord ∧ x (ix2 i j) = num a := by
    obtain ⟨w, h0, h1, h2⟩ := hx (ix2 i j)
    obtain ⟨a, ha, e⟩ := word_of w h0 h1
    exact ⟨a, ha, h2.trans e⟩
  choose a ha ea using hw
  choose q hq using hy
  exact ⟨⟨a, ha, ea, hp, q, hq⟩⟩

end Cert.Mining
end
-- ==== Proof.lean ====
/-
The proof of what is claimed of the two calls and of their references: all run to an end and leave their arguments and
the semaphores as they were; the first call over the extended reals is the call with one literal named, the second the
call itself; and each call, the second with the lines after it, leaves what its reference leaves.
-/
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Pre_inputs_ok
public import proofs.«01_k».proof.Proof.Gen.LossIdeal.Value
public import proofs.«01_k».proof.Proof.Gen.LossRefIdeal.Run
public import proofs.«01_k».proof.Proof.Gen.LossRefIdeal.Read
public import proofs.«01_k».proof.Proof.Gen.Mine
public import proofs.«01_k».proof.Proof.Gen.Mine.Skeleton
public import proofs.«01_k».proof.Proof.Gen.Mine.Launch
public import proofs.«01_k».proof.Proof.Gen.Mine.Points
public import proofs.«01_k».proof.Proof.Gen.Mine.Frame
public import proofs.«01_k».proof.Proof.Gen.MineIdeal
public import proofs.«01_k».proof.Proof.Gen.MineIdeal.Skeleton
public import proofs.«01_k».proof.Proof.Gen.MineIdeal.Launch
public import proofs.«01_k».proof.Proof.Gen.MineIdeal.Points
public import proofs.«01_k».proof.Proof.Gen.MineIdeal.Frame
public import proofs.«01_k».proof.Proof.Gen.MineRefIdeal
public import proofs.«01_k».proof.Proof.Gen.Pre_mine_ok
public import proofs.«01_k».proof.Proof.Gen.MineRefIdeal.Run
public import proofs.«01_k».proof.Proof.Gen.MineRefIdeal.Read
public import proofs.«01_k».proof.Proof.Precondition
public import proofs.«01_k».proof.Proof.RefResult
public import proofs.«01_k».proof.Proof.MineResult
public import proofs.«01_k».proof.Proof.MinePre
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Multibox

theorem eq3 {a b c : ℕ} (i : (⟨3, ![a, b, c]⟩ : Shape).Idx) : i = ix3 (i 0 : Fin a) (i 1 : Fin b) (i 2 : Fin c) := by
  funext k
  match k with
  | ⟨0, _⟩ => rfl
  | ⟨1, _⟩ => rfl
  | ⟨2, _⟩ => rfl

/-- The reference's first result is the sums of each image. -/
theorem reference_sums (a0 : Vec Ideal Cert.LossIdeal.S32x8732x4 .f32) (a1 : Vec Ideal Cert.LossIdeal.S32x8732x21 .f32)
    (a2 : Vec Ideal Cert.LossIdeal.S32x20x4 .f32) (a3 : Vec Ideal Cert.LossIdeal.S32x20 .i32) (a4 a5 : Vec Ideal Cert.LossIdeal.S8732x4 .f32)
    (ok : ∀ t, (image a0 a1 a2 a3 a4 a5 t).Ok) :
    Cert.LossRefIdeal.Read.val_main_v203 (F := Ideal) a0 a1 a2 a3 a4 a5 = sumsOf (image a0 a1 a2 a3 a4 a5) := by
  funext i
  obtain ⟨t, e, rfl⟩ : ∃ (t : Fin 32) (e : Fin 8), i = ix3 t (0 : Fin 1) e :=
    ⟨i 0, i 2, (eq3 i).trans (congrArg (fun u : Fin 1 => ix3 (i 0 : Fin 32) u (i 2 : Fin 8)) (Subsingleton.elim (α := Fin 1) _ _))⟩
  exact Ref.sums_value ⟨fun _ _ => rfl, fun _ _ => rfl, fun _ _ => rfl, fun _ => rfl, fun _ _ => rfl, fun _ _ => rfl⟩ (ok t) e

/-- Its second result is the cross entropies of each image's background priors. -/
theorem reference_negs (a0 : Vec Ideal Cert.LossIdeal.S32x8732x4 .f32) (a1 : Vec Ideal Cert.LossIdeal.S32x8732x21 .f32)
    (a2 : Vec Ideal Cert.LossIdeal.S32x20x4 .f32) (a3 : Vec Ideal Cert.LossIdeal.S32x20 .i32) (a4 a5 : Vec Ideal Cert.LossIdeal.S8732x4 .f32)
    (ok : ∀ t, (image a0 a1 a2 a3 a4 a5 t).Ok) :
    Cert.LossRefIdeal.Read.val_main_v205 (F := Ideal) a1 a2 a3 a4 = negsOf (image a0 a1 a2 a3 a4 a5) := by
  funext i
  obtain ⟨t, s, l, rfl⟩ : ∃ (t : Fin 32) (s : Fin 8) (l : Fin 1092), i = ix3 t s l := ⟨i 0, i 1, i 2, eq3 i⟩
  exact Ref.negs_value (x0 := a0) (x5 := a5)
    ⟨fun _ _ => rfl, fun _ _ => rfl, fun _ _ => rfl, fun _ => rfl, fun _ _ => rfl, fun _ _ => rfl⟩ (ok t) s l

/-- The reference runs to an end, keeps its arguments and leaves the semaphores at zero. -/
theorem reference_frame : Cert.quiescent_LossRefIdeal := fun m g _ =>
  (θ_run _ _ _).mono (fun r h => ⟨fun c => (h c).2.2, sem_eq_zero_of_no_sems (by decide) r.2⟩)
    (Cert.LossRefIdeal.Value.run (F := Ideal) m g)

/-- The kernel and the reference leave equal results. -/
theorem algebraic : Cert.algebraic_LossIdeal_LossRefIdeal_pre_inputs_ok := by
  intro m g m' g' pre same
  have ok := ok_of_pre m pre
  refine ⟨fun c => sumsOf (imageOf m c), fun c => negsOf (imageOf m c), run m g ok, ?_⟩
  refine (θ_run _ _ _).mono (fun r h c => ?_) (Cert.LossRefIdeal.Value.run (F := Ideal) m' g')
  obtain ⟨h1, h2, kept⟩ := h c
  obtain ⟨e0, e1, e2, e3, e4, e5⟩ := same c
  refine ⟨?_, ?_, kept⟩
  · refine h1.trans ((Cert.LossRefIdeal.Read.val_main_v203_eq (StableHlo.launchContents m' c)).trans (Eq.trans ?_ (reference_sums _ _ _ _ _ _ (ok c))))
    show Cert.LossRefIdeal.Read.val_main_v203 (F := Ideal) (m' ((c.tc : Thread Cert.LossRefIdeal.nD Cert.LossRefIdeal.τ).loc Cert.LossRefIdeal.main_arg0)) (m' ((c.tc : Thread Cert.LossRefIdeal.nD Cert.LossRefIdeal.τ).loc Cert.LossRefIdeal.main_arg1)) (m' ((c.tc : Thread Cert.LossRefIdeal.nD Cert.LossRefIdeal.τ).loc Cert.LossRefIdeal.main_arg2)) (m' ((c.tc : Thread Cert.LossRefIdeal.nD Cert.LossRefIdeal.τ).loc Cert.LossRefIdeal.main_arg3)) (m' ((c.tc : Thread Cert.LossRefIdeal.nD Cert.LossRefIdeal.τ).loc Cert.LossRefIdeal.main_arg4)) (m' ((c.tc : Thread Cert.LossRefIdeal.nD Cert.LossRefIdeal.τ).loc Cert.LossRefIdeal.main_arg5)) = _
    rw [e0, e1, e2, e3, e4, e5]
  · refine h2.trans ((Cert.LossRefIdeal.Read.val_main_v205_eq (StableHlo.launchContents m' c)).trans (Eq.trans ?_ (reference_negs _ _ _ _ _ _ (ok c))))
    show Cert.LossRefIdeal.Read.val_main_v205 (F := Ideal) (m' ((c.tc : Thread Cert.LossRefIdeal.nD Cert.LossRefIdeal.τ).loc Cert.LossRefIdeal.main_arg1)) (m' ((c.tc : Thread Cert.LossRefIdeal.nD Cert.LossRefIdeal.τ).loc Cert.LossRefIdeal.main_arg2)) (m' ((c.tc : Thread Cert.LossRefIdeal.nD Cert.LossRefIdeal.τ).loc Cert.LossRefIdeal.main_arg3)) (m' ((c.tc : Thread Cert.LossRefIdeal.nD Cert.LossRefIdeal.τ).loc Cert.LossRefIdeal.main_arg4)) = _
    rw [e1, e2, e3, e4]

theorem mine_reference_frame : Cert.quiescent_MineRefIdeal := fun m g _ =>
  (θ_run _ _ _).mono (fun r h => ⟨fun c => (h c).2.2, sem_eq_zero_of_no_sems (by decide) r.2⟩)
    (Cert.MineRefIdeal.Value.run (F := Ideal) m g)

/-- The second call, with the lines after it, and its reference leave equal results. -/
theorem mine_algebraic : Cert.algebraic_MineIdeal_MineRefIdeal_pre_mine_ok := by
  intro m g m' g' pre same
  let x (c : Dev Cert.MineIdeal.nD) := m ((c.tc : Thread Cert.MineIdeal.nD Cert.MineIdeal.τ).loc Cert.MineIdeal.main_arg0)
  let y (c : Dev Cert.MineIdeal.nD) := m ((c.tc : Thread Cert.MineIdeal.nD Cert.MineIdeal.τ).loc Cert.MineIdeal.main_arg1)
  refine ⟨fun c => Cert.Mining.left (x c) (y c), fun c => Cert.Mining.lossOf (Cert.Mining.left (x c) (y c)) (y c),
    Cert.Mining.run m g, ?_⟩
  refine (θ_run _ _ _).mono (fun r h c => ?_) (Cert.MineRefIdeal.Value.run (F := Ideal) m' g')
  obtain ⟨h1, h2, kept⟩ := h c
  obtain ⟨e0, e1⟩ := same c
  obtain ⟨K⟩ := Cert.Mining.known_of_pre _ _ (pre c)
  refine ⟨h1.trans ((Cert.MineRefIdeal.Read.val_main_v18_eq _ _).trans (Eq.trans ?_ K.left_eq.symm)),
    h2.trans ((Cert.MineRefIdeal.Read.val_main_v33_eq _ _).trans (Eq.trans ?_
      (Cert.Mining.reference_loss.trans (congrArg (Cert.Mining.lossOf · (y c)) K.left_eq.symm)))), kept⟩ <;>
  rw [e0, e1]

theorem claim : Cert.Claim := ⟨Cert.Loss.Gen.facts, Cert.LossIdeal.Gen.facts, Cert.LossRefIdeal.Gen.facts,
  Cert.Mine.Gen.facts, Cert.MineIdeal.Gen.facts, Cert.MineRefIdeal.Gen.facts, Cert.Pre_inputs_ok.Gen.facts, Cert.Pre_mine_ok.Gen.facts,
  fun m g _ => Cert.Loss.Gen.frame m g, fun m g _ => Cert.LossIdeal.Gen.frame m g, fun m g _ => Cert.LossIdeal.Gen.frame m g,
  reference_frame, fun m g _ => reference_frame m g trivial,
  fun m g _ => Cert.Mine.Gen.frame m g, fun m g _ => Cert.MineIdeal.Gen.frame m g, fun m g _ => Cert.MineIdeal.Gen.frame m g,
  mine_reference_frame, fun m g _ => mine_reference_frame m g trivial,
  IdealRules.named_const.statement Cert.LossIdeal.κ "tenth" .f32 0x3DCCCCCD#32 ((1 / 10 : ℝ) : EReal) rfl,
  algebraic, trivial, mine_algebraic⟩

end Cert.Proof

end
